-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_d [hPre_finite_d : Cert.Pre_finite_d.Facts] (m : (ℓ : Loc Cert.KernelIdeal.nD Cert.KernelIdeal.τ Cert.KernelIdeal.sig) → Buf (Elt Ideal) ℓ) : Prop :=
  ∀ c : Dev Cert.KernelIdeal.nD,
    (Cert.Pre_finite_d.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_d [hPre_finite_d : Cert.Pre_finite_d.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_d.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_d [hKernelIdeal : Cert.KernelIdeal.Facts] [hPre_finite_d : Cert.Pre_finite_d.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_d m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_d [hReferenceIdeal : Cert.ReferenceIdeal.Facts] [hPre_finite_d : Cert.Pre_finite_d.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_d m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S16x28x2x256 Cert.KernelIdeal.S16x28x1x256
  ∧ IdealRules.bf16_pair.PackStatement Cert.KernelIdeal.S28x256
  ∧ IdealRules.bf16_pair.Statement Cert.KernelIdeal.S1x28x2x256 Cert.KernelIdeal.S1x28x1x256
  ∧ IdealRules.bf16_pair.Statement Cert.KernelIdeal.S16x1x2x256 Cert.KernelIdeal.S16x1x1x256
  ∧ IdealRules.bf16_pair.Statement Cert.KernelIdeal.S16x256 Cert.KernelIdeal.S8x256

def algebraic_KernelIdeal_ReferenceIdeal_pre_finite_d [hKernelIdeal : Cert.KernelIdeal.Facts] [hReferenceIdeal : Cert.ReferenceIdeal.Facts] [hPre_finite_d : Cert.Pre_finite_d.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_d m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_d : Cert.Pre_finite_d.Facts),
    quiescent_Kernel (hKernel := hKernel)
    ∧ quiescent_KernelIdeal (hKernelIdeal := hKernelIdeal)
    ∧ quiescent_KernelIdeal_pre_finite_d (hKernelIdeal := hKernelIdeal) (hPre_finite_d := hPre_finite_d)
    ∧ quiescent_ReferenceIdeal (hReferenceIdeal := hReferenceIdeal)
    ∧ quiescent_ReferenceIdeal_pre_finite_d (hReferenceIdeal := hReferenceIdeal) (hPre_finite_d := hPre_finite_d)
    ∧ preserves_Kernel_KernelIdeal
    ∧ algebraic_KernelIdeal_ReferenceIdeal_pre_finite_d (hKernelIdeal := hKernelIdeal) (hReferenceIdeal := hReferenceIdeal) (hPre_finite_d := hPre_finite_d)
-- ==== Pre_finite_d.lean ====
abbrev S6x256x7168 : Shape := ⟨3, ![6, 256, 7168]⟩
abbrev S2048x28x32 : Shape := ⟨3, ![2048, 28, 32]⟩
abbrev S2048x28x64 : Shape := ⟨3, ![2048, 28, 64]⟩
abbrev S2048x28x12 : Shape := ⟨3, ![2048, 28, 12]⟩
abbrev S2048x28 : Shape := ⟨2, ![2048, 28]⟩
abbrev S_ : Shape := ⟨0, ![]⟩

class Facts : Prop where
  natLt_16_32 : 16 < 32
  bcast_S_S2048x28 : S_.BroadcastsInDim S2048x28 (![] : Fin 0 → Fin S2048x28.rank)
  reducesTo_S2048x28_S_d0_1 : S2048x28.ReducesTo [0, 1] S_
  h_S_ : 0 < S_.numel

variable [Facts]

def fn {F : FTy → Type} [FloatOps F] (main_arg0 : FVec F S6x256x7168 .bf16) (main_arg1 : IVec S2048x28x32 8) (main_arg2 : IVec S2048x28x64 8) (main_arg3 : IVec S2048x28x12 8) (main_arg4 : IVec S2048x28 16) : IVec S_ 1 :=
  let main_v0 : IVec S2048x28 32 := (extui 32 · natLt_16_32) main_arg4
  let main_c : IVec S_ 32 := constantI S_ 32 31744#32
  let main_v1 : IVec S2048x28 32 := broadcastInDim S2048x28 ![] bcast_S_S2048x28 main_c
  let main_v2 : IVec S2048x28 32 := andi main_v0 main_v1
  let main_c_0 : IVec S_ 32 := constantI S_ 32 31744#32
  let main_v3 : IVec S2048x28 32 := broadcastInDim S2048x28 ![] bcast_S_S2048x28 main_c_0
  let main_v4 : IVec S2048x28 1 := cmpi .ne main_v2 main_v3
  let main_c_1 : IVec S_ 1 := constantI S_ 1 1#1
  let main_v5 : IVec S_ 1 := (fun x v => Host.reduce IntOp.andi x v reducesTo_S2048x28_S_d0_1 h_S_) main_v4 main_c_1
  main_v5
-- ==== Kernel.lean ====
abbrev S6x256x7168 : Shape := ⟨3, ![6, 256, 7168]⟩
abbrev S2048x28x32 : Shape := ⟨3, ![2048, 28, 32]⟩
abbrev S2048x28x64 : Shape := ⟨3, ![2048, 28, 64]⟩
abbrev S2048x28x12 : Shape := ⟨3, ![2048, 28, 12]⟩
abbrev S2048x28 : Shape := ⟨2, ![2048, 28]⟩
abbrev S28x32x2048 : Shape := ⟨3, ![28, 32, 2048]⟩
abbrev S28x64x2048 : Shape := ⟨3, ![28, 64, 2048]⟩
abbrev S12x28x2048 : Shape := ⟨3, ![12, 28, 2048]⟩
abbrev S28x2048 : Shape := ⟨2, ![28, 2048]⟩
abbrev S6x256x2048 : Shape := ⟨3, ![6, 256, 2048]⟩
abbrev S6x8x1x256 : Shape := ⟨4, ![6, 8, 1, 256]⟩
abbrev S28x32x256 : Shape := ⟨3, ![28, 32, 256]⟩
abbrev S28x64x256 : Shape := ⟨3, ![28, 64, 256]⟩
abbrev S12x28x256 : Shape := ⟨3, ![12, 28, 256]⟩
abbrev S28x256 : Shape := ⟨2, ![28, 256]⟩
abbrev S6x256x256 : Shape := ⟨3, ![6, 256, 256]⟩
abbrev S6x1x1x256 : Shape := ⟨4, ![6, 1, 1, 256]⟩
abbrev S16x28x256 : Shape := ⟨3, ![16, 28, 256]⟩
abbrev S7168x256 : Shape := ⟨2, ![7168, 256]⟩
abbrev S1x28x256 : Shape := ⟨3, ![1, 28, 256]⟩
abbrev S1x32x256 : Shape := ⟨3, ![1, 32, 256]⟩
abbrev S32x256 : Shape := ⟨2, ![32, 256]⟩
abbrev S8x256 : Shape := ⟨2, ![8, 256]⟩
abbrev S16x1x256 : Shape := ⟨3, ![16, 1, 256]⟩
abbrev S1x1x256 : Shape := ⟨3, ![1, 1, 256]⟩
abbrev S1x256 : Shape := ⟨2, ![1, 256]⟩
abbrev S16x256 : Shape := ⟨2, ![16, 256]⟩
abbrev S1x256x7168 : Shape := ⟨3, ![1, 256, 7168]⟩
abbrev S256x7168 : Shape := ⟨2, ![256, 7168]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x1x1x256 : Shape := ⟨4, ![1, 1, 1, 256]⟩
abbrev S6x8x256 : Shape := ⟨3, ![6, 8, 256]⟩
abbrev S6x256x8 : Shape := ⟨3, ![6, 256, 8]⟩

abbrev nBuf : Space → Nat
  | .hbm => 14
  | .vmem => 17
  | .smem => 0
  | _ => 0

abbrev bufTy : (tb : Table) → Fin (tcTables nBuf tb) → BufTy
  | .hbm, ⟨0, _⟩ => ⟨S6x256x7168, .bf16⟩
  | .hbm, ⟨1, _⟩ => ⟨S2048x28x32, .i8⟩
  | .hbm, ⟨2, _⟩ => ⟨S2048x28x64, .i8⟩
  | .hbm, ⟨3, _⟩ => ⟨S2048x28x12, .i8⟩
  | .hbm, ⟨4, _⟩ => ⟨S2048x28, .i16⟩
  | .hbm, ⟨5, _⟩ => ⟨S28x32x2048, .i8⟩
  | .hbm, ⟨6, _⟩ => ⟨S28x64x2048, .i8⟩
  | .hbm, ⟨7, _⟩ => ⟨S12x28x2048, .i8⟩
  | .hbm, ⟨8, _⟩ => ⟨S28x2048, .i16⟩
  | .hbm, ⟨9, _⟩ => ⟨S6x256x2048, .bf16⟩
  | .hbm, ⟨10, _⟩ => ⟨S6x256x2048, .i8⟩
  | .hbm, ⟨11, _⟩ => ⟨S6x8x1x256, .f32⟩
  | .hbm, ⟨12, _⟩ => ⟨S6x8x256, .f32⟩
  | .hbm, ⟨13, _⟩ => ⟨S6x256x8, .f32⟩
  | .local _ .vmem, ⟨0, _⟩ => ⟨S6x256x7168, .bf16⟩
  | .local _ .vmem, ⟨1, _⟩ => ⟨S28x32x256, .i8⟩
  | .local _ .vmem, ⟨2, _⟩ => ⟨S28x32x256, .i8⟩
  | .local _ .vmem, ⟨3, _⟩ => ⟨S28x64x256, .i8⟩
  | .local _ .vmem, ⟨4, _⟩ => ⟨S28x64x256, .i8⟩
  | .local _ .vmem, ⟨5, _⟩ => ⟨S12x28x256, .i8⟩
  | .local _ .vmem, ⟨6, _⟩ => ⟨S12x28x256, .i8⟩
  | .local _ .vmem, ⟨7, _⟩ => ⟨S28x256, .i16⟩
  | .local _ .vmem, ⟨8, _⟩ => ⟨S28x256, .i16⟩
  | .local _ .vmem, ⟨9, _⟩ => ⟨S6x256x256, .bf16⟩
  | .local _ .vmem, ⟨10, _⟩ => ⟨S6x256x256, .bf16⟩
  | .local _ .vmem, ⟨11, _⟩ => ⟨S6x256x256, .i8⟩
  | .local _ .vmem, ⟨12, _⟩ => ⟨S6x256x256, .i8⟩
  | .local _ .vmem, ⟨13, _⟩ => ⟨S6x1x1x256, .f32⟩
  | .local _ .vmem, ⟨14, _⟩ => ⟨S6x1x1x256, .f32⟩
  | .local _ .vmem, ⟨15, _⟩ => ⟨S16x28x256, .i32⟩
  | .local _ .vmem, ⟨16, _⟩ => ⟨S7168x256, .bf16⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S6x256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S28x32x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x64x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x28x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x256 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x256x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
abbrev S16x28x2x256 : Shape := ⟨4, ![16, 28, 2, 256]⟩
abbrev S16x28x1x256 : Shape := ⟨4, ![16, 28, 1, 256]⟩
abbrev S1x28x2x256 : Shape := ⟨4, ![1, 28, 2, 256]⟩
abbrev S1x28x1x256 : Shape := ⟨4, ![1, 28, 1, 256]⟩
abbrev S16x1x2x256 : Shape := ⟨4, ![16, 1, 2, 256]⟩
abbrev S16x1x1x256 : Shape := ⟨4, ![16, 1, 1, 256]⟩
  | .local _ .vmem, ⟨15, _⟩ => ⟨S16x28x2x256, .bf16⟩
variable {F : FTy → Type} [FloatOps F]
-- ==== ReferenceIdeal.lean ====
abbrev S6x256x7168 : Shape := ⟨3, ![6, 256, 7168]⟩
abbrev S2048x28x32 : Shape := ⟨3, ![2048, 28, 32]⟩
abbrev S2048x28x64 : Shape := ⟨3, ![2048, 28, 64]⟩
abbrev S2048x28x12 : Shape := ⟨3, ![2048, 28, 12]⟩
abbrev S2048x28 : Shape := ⟨2, ![2048, 28]⟩
abbrev S6x256x2048 : Shape := ⟨3, ![6, 256, 2048]⟩
abbrev S6x256x8 : Shape := ⟨3, ![6, 256, 8]⟩
abbrev S1x1x2x1 : Shape := ⟨4, ![1, 1, 2, 1]⟩
abbrev S2048x28x8 : Shape := ⟨3, ![2048, 28, 8]⟩
abbrev S2048x28x1x8 : Shape := ⟨4, ![2048, 28, 1, 8]⟩
abbrev S2048x28x2x8 : Shape := ⟨4, ![2048, 28, 2, 8]⟩
abbrev S2048x28x16 : Shape := ⟨3, ![2048, 28, 16]⟩
abbrev S1x1x4x1 : Shape := ⟨4, ![1, 1, 4, 1]⟩
abbrev S2048x28x4 : Shape := ⟨3, ![2048, 28, 4]⟩
abbrev S2048x28x1x4 : Shape := ⟨4, ![2048, 28, 1, 4]⟩
abbrev S2048x28x4x4 : Shape := ⟨4, ![2048, 28, 4, 4]⟩
abbrev S2048x28x1 : Shape := ⟨3, ![2048, 28, 1]⟩
abbrev S2048x28x2x1x32 : Shape := ⟨5, ![2048, 28, 2, 1, 32]⟩
abbrev S2048x28x1x1x32 : Shape := ⟨5, ![2048, 28, 1, 1, 32]⟩
abbrev S1x1x1x4x1 : Shape := ⟨5, ![1, 1, 1, 4, 1]⟩
abbrev S1x1x2x1x1 : Shape := ⟨5, ![1, 1, 2, 1, 1]⟩
abbrev S2048x28x2x4x32 : Shape := ⟨5, ![2048, 28, 2, 4, 32]⟩
abbrev S1x1x2x4x1 : Shape := ⟨5, ![1, 1, 2, 4, 1]⟩
abbrev S2048x28x16x16 : Shape := ⟨4, ![2048, 28, 16, 16]⟩
abbrev S2048x28x16x1 : Shape := ⟨4, ![2048, 28, 16, 1]⟩
abbrev S2048x7168 : Shape := ⟨2, ![2048, 7168]⟩
abbrev S6x256x8x256 : Shape := ⟨4, ![6, 256, 8, 256]⟩
abbrev S6x256x8x1 : Shape := ⟨4, ![6, 256, 8, 1]⟩

abbrev nBuf : Space → Nat
  | .hbm => 8
  | .vmem => 8
  | .smem => 0
  | _ => 0

abbrev bufTy : (tb : Table) → Fin (tcTables nBuf tb) → BufTy
  | .hbm, ⟨0, _⟩ => ⟨S6x256x7168, .bf16⟩
  | .hbm, ⟨1, _⟩ => ⟨S2048x28x32, .i8⟩
  | .hbm, ⟨2, _⟩ => ⟨S2048x28x64, .i8⟩
  | .hbm, ⟨3, _⟩ => ⟨S2048x28x12, .i8⟩
  | .hbm, ⟨4, _⟩ => ⟨S2048x28, .i16⟩
  | .hbm, ⟨5, _⟩ => ⟨S6x256x2048, .bf16⟩
  | .hbm, ⟨6, _⟩ => ⟨S6x256x2048, .i8⟩
  | .hbm, ⟨7, _⟩ => ⟨S6x256x8, .f32⟩
  | .local _ .vmem, ⟨0, _⟩ => ⟨S6x256x7168, .bf16⟩
  | .local _ .vmem, ⟨1, _⟩ => ⟨S2048x28x32, .i8⟩
  | .local _ .vmem, ⟨2, _⟩ => ⟨S2048x28x64, .i8⟩
  | .local _ .vmem, ⟨3, _⟩ => ⟨S2048x28x12, .i8⟩
  | .local _ .vmem, ⟨4, _⟩ => ⟨S2048x28, .i16⟩
  | .local _ .vmem, ⟨5, _⟩ => ⟨S6x256x2048, .bf16⟩
  | .local _ .vmem, ⟨6, _⟩ => ⟨S6x256x2048, .i8⟩
  | .local _ .vmem, ⟨7, _⟩ => ⟨S6x256x8, .f32⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x28x32 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x28x64 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x28x12 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x28 .i16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pieces.lean ====
module

public import proofs.«01_k».proof.Proof.Gen.KernelIdeal.Frame
public import Idealize.ShloMosaic.Lib.WritesUnit

@[expose] public section

set_option maxRecDepth 16384

noncomputable section

namespace Cert.KernelIdeal.Proof

open Idealize.ShloMosaic Idealize.ShloMosaic.TcCoe Idealize.ShloMosaic.Tactic
open Cert.KernelIdeal.Gen

variable {F : FTy → Type} [FloatOps F]

/-! ## One block's bytes and scales, as the body loads them -/

/-- Row block `b` of the mask bytes lies in its buffer. -/
theorem inb_hm (b : Fin 28) : ∀ a, (![b.val, 0, 0] : Fin 3 → ℕ) a + S1x32x256.size a ≤ S28x32x256.size a := by
  intro a; have := b.isLt
  fin_cases a
  · show b.val + 1 ≤ 28; omega
  · exact Nat.le_refl 32
  · exact Nat.le_refl 256

/-- Half `h` of row block `b` of the low-bit bytes lies in its buffer. -/
theorem inb_qs (b : Fin 28) (h : Fin 2) :
    ∀ a, (![b.val, 32 * h.val, 0] : Fin 3 → ℕ) a + S1x32x256.size a ≤ S28x64x256.size a := by
  intro a; have := b.isLt; have := h.isLt
  fin_cases a
  · show b.val + 1 ≤ 28; omega
  · show 32 * h.val + 32 ≤ 64; omega
  · exact Nat.le_refl 256

/-- Scale byte `i` of every row block lies in its buffer. -/
theorem inb_sc (i : Fin 12) : ∀ a, (![i.val, 0, 0] : Fin 3 → ℕ) a + S1x28x256.size a ≤ S12x28x256.size a := by
  intro a; have := i.isLt
  fin_cases a
  · show i.val + 1 ≤ 12; omega
  · exact Nat.le_refl 28
  · exact Nat.le_refl 256

/-- The gains of group `i`, both halves of their words, lie in their scratch. -/
theorem inb_g (i : Fin 16) : ∀ a, (![i.val, 0, 0, 0] : Fin 4 → ℕ) a + S1x28x2x256.size a ≤ S16x28x2x256.size a := by
  intro a; have := i.isLt
  fin_cases a
  · show i.val + 1 ≤ 16; omega
  · exact Nat.le_refl 28
  · exact Nat.le_refl 2
  · exact Nat.le_refl 256

/-- The gains of row block `b`, of every group, lie in their scratch. -/
theorem inb_gb (b : Fin 28) :
    ∀ a, (![0, b.val, 0, 0] : Fin 4 → ℕ) a + S16x1x2x256.size a ≤ S16x28x2x256.size a := by
  intro a; have := b.isLt
  fin_cases a
  · exact Nat.le_refl 16
  · show b.val + 1 ≤ 28; omega
  · exact Nat.le_refl 2
  · exact Nat.le_refl 256

/-- The gains of group `i` lie in those of a row block. -/
theorem slices_gain (i : Fin 16) : Shape.Slices S16x1x256 ![i.val, 0, 0] S1x1x256 := by
  revert i; decide

/-- The sixteen rows of tile `n` lie in the weight scratch. -/
theorem inb_w (n : Fin 448) : ∀ a, (![16 * n.val, 0] : Fin 2 → ℕ) a + S16x256.size a ≤ S7168x256.size a := by
  intro a; have := n.isLt
  fin_cases a
  · show 16 * n.val + 16 ≤ 7168; omega
  · exact Nat.le_refl 256

/-- Half `p` of a 32-row code tile. -/
theorem slices_code (p : Fin 2) : Shape.Slices S32x256 ![16 * p.val, 0] S16x256 :=
  match p with
  | ⟨0, _⟩ => slices_S32x256_o0_0_S16x256
  | ⟨1, _⟩ => slices_S32x256_o16_0_S16x256

/-- Batch entry `bi` lies in the activations' buffer. -/
theorem inb_x (bi : Fin 6) : ∀ a, (![bi.val, 0, 0] : Fin 3 → ℕ) a + S1x256x7168.size a ≤ S6x256x7168.size a := by
  intro a; have := bi.isLt
  fin_cases a
  · show bi.val + 1 ≤ 6; omega
  · exact Nat.le_refl 256
  · exact Nat.le_refl 7168

/-- Batch entry `bi` lies in the buffers of products and codes. -/
theorem inb_y (bi : Fin 6) : ∀ a, (![bi.val, 0, 0] : Fin 3 → ℕ) a + S1x256x256.size a ≤ S6x256x256.size a := by
  intro a; have := bi.isLt
  fin_cases a
  · show bi.val + 1 ≤ 6; omega
  · exact Nat.le_refl 256
  · exact Nat.le_refl 256

/-- Batch entry `bi` lies in the buffer of scales. -/
theorem inb_s (bi : Fin 6) : ∀ a, (![bi.val, 0, 0, 0] : Fin 4 → ℕ) a + S1x1x1x256.size a ≤ S6x1x1x256.size a := by
  intro a; have := bi.isLt
  fin_cases a
  · show bi.val + 1 ≤ 6; omega
  · exact Nat.le_refl 1
  · exact Nat.le_refl 1
  · exact Nat.le_refl 256

section Loads

variable (arg2 : Memref sig .tc .vmem S28x32x256 .i8) (harg2 : arg2.IsWhole)
  (arg3 : Memref sig .tc .vmem S28x64x256 .i8) (harg3 : arg3.IsWhole)
  (arg4 : Memref sig .tc .vmem S12x28x256 .i8) (harg4 : arg4.IsWhole)
  (arg5 : Memref sig .tc .vmem S28x256 .i16) (harg5 : arg5.IsWhole)
  (arg9 : Memref sig .tc .vmem S16x28x2x256 .bf16)
  (x1 : Vec F S28x32x256 .i8) (x2 : Vec F S28x64x256 .i8) (x3 : Vec F S12x28x256 .i8) (x4 : Vec F S28x256 .i16)

/-- The mask bytes of row block `b`, four to a word. -/
def hmWord (b : Fin 28) : IVec S8x256 32 :=
  bitcast S8x256 32 (shapeCast S32x256
    (View.readAt (Elt F) arg2.view (Rect.unit (s := S28x32x256) ![b.val, 0, 0] S1x32x256.size (inb_hm b)).toLoadRect (harg2.unread x1))
    shapeCasts_S1x32x256_S32x256) bitcasts_S32x256_w8_S8x256_w32

/-- The low-bit bytes of half `h` of row block `b`, four to a word. -/
def qsWord (b : Fin 28) (h : Fin 2) : IVec S8x256 32 :=
  bitcast S8x256 32 (shapeCast S32x256
    (View.readAt (Elt F) arg3.view (Rect.unit (s := S28x64x256) ![b.val, 32 * h.val, 0] S1x32x256.size (inb_qs b h)).toLoadRect (harg3.unread x2))
    shapeCasts_S1x32x256_S32x256) bitcasts_S32x256_w8_S8x256_w32

/-- The mask words moved so that bit `s` of each byte stands at that byte's bit 2. -/
def maskTo2 (w : IVec S8x256 32) : ℕ → IVec S8x256 32
  | 0 => shli w (broadcast S8x256 2#32)
  | 1 => shli w (broadcast S8x256 1#32)
  | s + 2 => shrsi w (broadcast S8x256 (BitVec.ofNat 32 s))

/-- The 32 rows of codes of shift `j`, half `h`, from the packed words. -/
def codeTile (hm q : IVec S8x256 32) (h : Fin 2) (j : Fin 4) : FVec F S32x256 .bf16 :=
  subf (sitofp .bf16 (bitcast S32x256 8
      (ori (andi (shrsi q (broadcast S8x256 (BitVec.ofNat 32 (2 * j.val)))) (broadcast S8x256 50529027#32))
        (andi (maskTo2 hm (4 * h.val + j.val)) (broadcast S8x256 67372036#32)))
      bitcasts_S8x256_w32_S32x256_w8))
    (broadcast S32x256 (Scalar.ofBits .bf16 0x4080#16))

/-- Scale byte `i` of every row block, as a word. -/
def scWord (i : Fin 12) : IVec S28x256 32 :=
  extui 32 (shapeCast S28x256
    (View.readAt (Elt F) arg4.view (Rect.unit (s := S12x28x256) ![i.val, 0, 0] S1x28x256.size (inb_sc i)).toLoadRect (harg4.unread x3))
    shapeCasts_S1x28x256_S28x256) natLt_8_32

/-- The gains of one group from its decoded half, the byte with its low bits and the byte with its high bits. -/
def gainRows (d : FVec F S28x256 .f32) (lo hi : IVec S28x256 32) (sl sh : ℕ) : FVec F S28x256 .bf16 :=
  truncf .bf16 (extf .f32 (truncf .bf16 (mulf d (sitofp .f32
    (subi (ori (andi (shrsi lo (broadcast S28x256 (BitVec.ofNat 32 sl))) (broadcast S28x256 15#32))
      (shli (andi (shrsi hi (broadcast S28x256 (BitVec.ofNat 32 sh))) (broadcast S28x256 3#32)) (broadcast S28x256 4#32)))
      (broadcast S28x256 32#32)))) bitsLt_bf16_f32) bitsLt_bf16_f32)

/-- Gains as the two halves of their words. -/
def bothHalves (g : FVec F S28x256 .bf16) : FVec F S1x28x2x256 .bf16 :=
  interleaveRows S1x28x2x256 (shapeCast S1x28x1x256 (shapeCast S1x28x256 g shapeCasts_S28x256_S1x28x256) shapeCasts_S1x28x256_S1x28x1x256)
    (shapeCast S1x28x1x256 (shapeCast S1x28x256 g shapeCasts_S28x256_S1x28x256) shapeCasts_S1x28x256_S1x28x1x256)
    bitcasts_S1x28x2x256_w16_S1x28x1x256_w32

/-- The gains of group `i`, as stored. -/
def gainPiece (i : Fin 16) : FVec F S1x28x2x256 .bf16 :=
  bothHalves (gainRows (k0_pay2 (View.readAt (Elt F) arg5.view (Rect.unit (s := S28x256) ![0, 0] S28x256.size inb_S28x256_S28x256_0_0).toLoadRect (harg5.unread x4)))
    (scWord arg4 harg4 x3 ⟨i.val % 8, by omega⟩) (scWord arg4 harg4 x3 ⟨8 + i.val % 4, by omega⟩)
    (4 * (i.val / 8)) (2 * (i.val / 4)))

/-- All stores of gains. -/
def gainPieces : List (View.Piece (Elt F) S16x28x2x256 .bf16) :=
  View.tilePieces (NT := 16) (s := S16x28x2x256) (e := .bf16) (Val := Elt F) S1x28x2x256.size (fun i => ![i.val, 0, 0, 0]) inb_g
    (gainPiece arg4 harg4 arg5 harg5 x3 x4) 16 (Nat.le_refl 16)

theorem HS0_eq (c : Dev nD) :
    kernelRun0_A.sl.HS0_16 (F := F) c arg4 harg4 arg5 harg5 x3 x4 = gainPieces arg4 harg4 arg5 harg5 x3 x4 := by
  rfl

/-- One half of the words of group `i`'s gains, eight times over. -/
def gainHalf (q : Fin 2) (i : Fin 16) (gv : Vec F S16x1x2x256 .bf16) : FVec F S8x256 .bf16 :=
  have g : FVec F S1x256 .bf16 := shapeCast S1x256 (extractStridedSlice S1x1x256 ![i.val, 0, 0] (shapeCast S16x1x256
    (rowsOfParity q S16x1x1x256 gv bitcasts_S16x1x2x256_w16_S16x1x1x256_w32) shapeCasts_S16x1x1x256_S16x1x256) (slices_gain i))
    shapeCasts_S1x1x256_S1x256
  concatenate S8x256 0 [⟨S1x256, g⟩, ⟨S1x256, g⟩, ⟨S1x256, g⟩, ⟨S1x256, g⟩, ⟨S1x256, g⟩, ⟨S1x256, g⟩, ⟨S1x256, g⟩, ⟨S1x256, g⟩]
    concatenates_S1x256_S1x256_S1x256_S1x256_S1x256_S1x256_S1x256_S1x256_S8x256_d0

/-- One tile of sixteen weight rows: codes times the group's gains. -/
def weightTile (code : FVec F S32x256 .bf16) (p : Fin 2) (i : Fin 16) (gv : Vec F S16x1x2x256 .bf16) : FVec F S16x256 .bf16 :=
  shapeCast S16x256 (mulf (extractStridedSlice S16x256 ![16 * p.val, 0] code (slices_code p))
    (interleaveRows S16x256 (gainHalf 0 i gv) (gainHalf 1 i gv) bitcasts_S16x256_w16_S8x256_w32)) shapeCasts_S16x256_S16x256

/-- The `n`-th tile of weights, as stored. -/
def weightPiece (n : Fin 448) : FVec F S16x256 .bf16 :=
  weightTile (codeTile (hmWord arg2 harg2 x1 ⟨n.val / 16, by omega⟩)
      (qsWord arg3 harg3 x2 ⟨n.val / 16, by omega⟩ ⟨n.val % 16 / 8, by omega⟩)
      ⟨n.val % 16 / 8, by omega⟩ ⟨n.val % 8 / 2, by omega⟩) ⟨n.val % 2, by omega⟩ ⟨n.val % 16, by omega⟩
    (arg9.view.readCov (gainPieces arg4 harg4 arg5 harg5 x3 x4)
      (Rect.unit (s := S16x28x2x256) ![0, n.val / 16, 0, 0] S16x1x2x256.size (inb_gb ⟨n.val / 16, by omega⟩)).toLoadRect)

/-- All stores of weights. -/
def weightPieces : List (View.Piece (Elt F) S7168x256 .bf16) :=
  View.tilePieces (NT := 448) (s := S7168x256) (e := .bf16) (Val := Elt F) S16x256.size (fun n => ![16 * n.val, 0]) inb_w
    (weightPiece arg2 harg2 arg3 harg3 arg4 harg4 arg5 harg5 arg9 x1 x2 x3 x4) 448 (Nat.le_refl 448)

theorem HS1_eq (c : Dev nD) :
    kernelRun0_A.sl.HS1_448 (F := F) c arg2 harg2 arg3 harg3 arg4 harg4 arg5 harg5 arg9 x1 x2 x3 x4
      = weightPieces arg2 harg2 arg3 harg3 arg4 harg4 arg5 harg5 arg9 x1 x2 x3 x4 := by
  sl_kernel_rfl

variable (arg1 : Memref sig .tc .vmem S6x256x7168 .bf16) (harg1 : arg1.IsWhole)
  (arg10 : Memref sig .tc .vmem S7168x256 .bf16) (x0 : Vec F S6x256x7168 .bf16)

/-- The activations of batch entry `bi`. -/
def xRows (bi : Fin 6) : FVec F S256x7168 .bf16 :=
  shapeCast S256x7168
    (View.readAt (Elt F) arg1.view (Rect.unit (s := S6x256x7168) ![bi.val, 0, 0] S1x256x7168.size (inb_x bi)).toLoadRect (harg1.unread x0))
    shapeCasts_S1x256x7168_S256x7168

/-- The weights, as loaded after all their tiles are stored. -/
def weights : Vec F S7168x256 .bf16 :=
  arg10.view.readCov (weightPieces arg2 harg2 arg3 harg3 arg4 harg4 arg5 harg5 arg9 x1 x2 x3 x4)
    (Rect.unit (s := S7168x256) ![0, 0] S7168x256.size inb_S7168x256_S7168x256_0_0).toLoadRect

/-- The product of one batch entry with one block of weights. -/
def prod (x : FVec F S256x7168 .bf16) (w : Vec F S7168x256 .bf16) : FVec F S256x256 .f32 :=
  matmul dot_S256x7168_S7168x256_S256x256_1_0_0_1_n_n none x w (constant S256x256 .f32 0x00000000#32)

/-- The column of row scales of a product. -/
def scaleCol (y : FVec F S256x256 .f32) : FVec F S256x1 .f32 :=
  select (cmpf .oeq (shapeCast S256x1 (multiReduction .maximumf [1] S256 (absf y) 0xFF800000#32 reduces_S256x256_S256 (.inl rfl) rfl)
      shapeCasts_S256_S256x1) (broadcast S256x1 (Scalar.ofBits .f32 0x00000000#32)))
    (broadcast S256x1 (Scalar.ofBits .f32 0x3F800000#32))
    (divf (shapeCast S256x1 (multiReduction .maximumf [1] S256 (absf y) 0xFF800000#32 reduces_S256x256_S256 (.inl rfl) rfl)
      shapeCasts_S256_S256x1) (broadcast S256x1 (Scalar.ofBits .f32 0x42FE0000#32)))

/-- The rounded product of one batch entry, as stored. -/
def yTile (y : FVec F S256x256 .f32) : FVec F S1x256x256 .bf16 :=
  shapeCast S1x256x256 (truncf .bf16 y bitsLt_bf16_f32) shapeCasts_S256x256_S1x256x256

/-- The codes of one batch entry, as stored. -/
def codesTile (y : FVec F S256x256 .f32) : IVec S1x256x256 8 :=
  shapeCast S1x256x256 (fptosi 8 (minimumf (broadcast S256x256 (Scalar.ofBits .f32 0x42FE0000#32))
    (maximumf (broadcast S256x256 (Scalar.ofBits .f32 0xC2FE0000#32))
      (roundeven (divf y (broadcastTo S256x256 (scaleCol y) broadcasts_S256x1_S256x256))))))
    shapeCasts_S256x256_S1x256x256

/-- The scales of one batch entry, as stored: one row. -/
def scaleTile (y : FVec F S256x256 .f32) : FVec F S1x1x1x256 .f32 :=
  shapeCast S1x1x1x256 (extractStridedSlice S1x256 ![0, 0] (transpose S128x256 [1, 0]
    (broadcastTo S256x128 (shapeCast S256x1 (scaleCol y) shapeCasts_S256x1_S256x1) broadcasts_S256x1_S256x128)
    transposes_S256x128_p1_0_S128x256) slices_S128x256_o0_0_S1x256) shapeCasts_S1x256_S1x1x1x256

/-- The product of batch entry `bi`. -/
def yBlock (bi : Fin 6) : FVec F S256x256 .f32 :=
  prod (xRows arg1 harg1 x0 bi) (weights arg2 harg2 arg3 harg3 arg4 harg4 arg5 harg5 arg9 x1 x2 x3 x4 arg10)

variable (c : Dev nD) (i : grid0.Coords) (arg6 : Memref sig .tc .vmem S6x256x256 .bf16) (harg6 : arg6.IsWhole)
  (arg7 : Memref sig .tc .vmem S6x256x256 .i8) (harg7 : arg7.IsWhole)
  (arg8 : Memref sig .tc .vmem S6x1x1x256 .f32) (harg8 : arg8.IsWhole)
  (harg9 : arg9.IsWhole) (harg10 : arg10.IsWhole)

theorem run_pieces5 :
    (kernelRun0_A c i arg1 harg1 arg2 harg2 arg3 harg3 arg4 harg4 arg5 harg5 arg6 harg6 arg7 harg7 arg8 harg8 arg9 harg9 arg10 harg10 x0 x1 x2 x3 x4).1
      = View.tilePieces (NT := 6) (s := S6x256x256) (e := .bf16) (Val := Elt F) S1x256x256.size (fun bi => ![bi.val, 0, 0]) inb_y
          (fun bi => yTile (yBlock arg2 harg2 arg3 harg3 arg4 harg4 arg5 harg5 arg9 x1 x2 x3 x4 arg1 harg1 arg10 x0 bi)) 6 (Nat.le_refl 6) := by
  sl_kernel_rfl

theorem run_pieces6 :
    (kernelRun0_A c i arg1 harg1 arg2 harg2 arg3 harg3 arg4 harg4 arg5 harg5 arg6 harg6 arg7 harg7 arg8 harg8 arg9 harg9 arg10 harg10 x0 x1 x2 x3 x4).2.1
      = View.tilePieces (NT := 6) (s := S6x256x256) (e := .i8) (Val := Elt F) S1x256x256.size (fun bi => ![bi.val, 0, 0]) inb_y
          (fun bi => codesTile (yBlock arg2 harg2 arg3 harg3 arg4 harg4 arg5 harg5 arg9 x1 x2 x3 x4 arg1 harg1 arg10 x0 bi)) 6 (Nat.le_refl 6) := by
  sl_kernel_rfl

theorem run_pieces7 :
    (kernelRun0_A c i arg1 harg1 arg2 harg2 arg3 harg3 arg4 harg4 arg5 harg5 arg6 harg6 arg7 harg7 arg8 harg8 arg9 harg9 arg10 harg10 x0 x1 x2 x3 x4).2.2.1
      = View.tilePieces (NT := 6) (s := S6x1x1x256) (e := .f32) (Val := Elt F) S1x1x1x256.size (fun bi => ![bi.val, 0, 0, 0]) inb_s
          (fun bi => scaleTile (yBlock arg2 harg2 arg3 harg3 arg4 harg4 arg5 harg5 arg9 x1 x2 x3 x4 arg1 harg1 arg10 x0 bi)) 6 (Nat.le_refl 6) := by
  sl_kernel_rfl

end Loads

end Cert.KernelIdeal.Proof
-- ==== Proof.Words.lean ====
module

public import Idealize.ShloMosaic.Lib.BitcastFour
public import Idealize.ShloMosaic.PureOps.Ideal

@[expose] public section

noncomputable section

namespace Cert.Q3K

open Idealize.ShloMosaic Idealize.ShloMosaic.ValueIdx

/-! ## The half-precision factor -/

/-- The word of a half's exponent and mantissa. -/
def magWord (d : BitVec 16) : BitVec 32 := IntOp.andi (d.setWidth 32) 32767#32

/-- A half decoded with 32-bit words: the small ones as an integer times `2⁻²⁴`, the others by moving the exponent and the
    mantissa to their places in a 32-bit float, and the sign as a factor. -/
def halfDecoded (d : BitVec 16) : EReal :=
  Scalar.select (IntOp.cmpi .slt (magWord d) 1024#32)
      ((((magWord d).toInt : ℝ) : EReal) * Ideal.ieee 8 23 0x33800000#32)
      (Ideal.ieee 8 23 (IntOp.addi (IntOp.shli .vector (magWord d) 13#32) 939524096#32))
    * Scalar.select (IntOp.cmpi .ne (IntOp.shli .vector (IntOp.andi (d.setWidth 32) 32768#32) 16#32) 0#32)
        (Ideal.ieee 8 23 0xBF800000#32) (Ideal.ieee 8 23 0x3F800000#32)

theorem magWord_toNat (d : BitVec 16) : (magWord d).toNat = d.toNat % 32768 := by
  have := d.isLt
  rw [magWord, IntOp.andi, BitVec.toNat_and, BitVec.toNat_setWidth]
  show (d.toNat % 2 ^ 32) &&& (2 ^ 15 - 1) = _
  rw [Nat.and_two_pow_sub_one_eq_mod]
  omega

/-- The sign factor's condition is the half's top bit. -/
theorem signCond_eq (d : BitVec 16) :
    IntOp.cmpi .ne (IntOp.shli .vector (IntOp.andi (d.setWidth 32) 32768#32) 16#32) 0#32 = BitVec.ofBool (d.getLsbD 15) := by
  have key : IntOp.shli .vector (IntOp.andi (d.setWidth 32) 32768#32) 16#32 = if d.getLsbD 15 then 2147483648#32 else 0#32 := by
    apply BitVec.eq_of_getLsbD_eq
    intro i hi
    have h1 : (32768#32 : BitVec 32).getLsbD (i - 16) = decide (i - 16 = 15) := by
      interval_cases i <;> rfl
    have h2 : (2147483648#32 : BitVec 32).getLsbD i = decide (i = 31) := by
      interval_cases i <;> rfl
    show ((d.setWidth 32 &&& 32768#32) <<< 16).getLsbD i = _
    rw [BitVec.getLsbD_shiftLeft, BitVec.getLsbD_and, h1, BitVec.getLsbD_setWidth]
    by_cases h31 : i = 31
    · subst h31; cases h : d.getLsbD 15 <;> simp [h]
    · have : ¬ (i - 16 = 15) ∨ i < 16 := by omega
      rw [show decide (i - 16 = 15) = decide (i = 31) by simp; omega]
      cases h : d.getLsbD 15 <;> simp [h31, h2]
  rw [key]
  cases d.getLsbD 15 <;> rfl

/-- The value of a 32-bit float by its fields, for an exponent that is neither of the two special ones. -/
theorem ieee32_normal (b : BitVec 32) (ex fr : ℕ) (hex : 0 < ex) (hex' : ex < 255) (hfr : fr < 2 ^ 23)
    (hb : b.toNat = ex * 2 ^ 23 + fr) :
    Ideal.ieee 8 23 b = (((2 ^ 23 + fr : ℕ) : ℝ) * (2 : ℝ) ^ ((ex : ℤ) - 150) : ℝ) := by
  have e1 : (b.extractLsb' 23 8).toNat = ex := by
    rw [BitVec.extractLsb'_toNat, hb, Nat.shiftRight_eq_div_pow]; omega
  have e2 : (b.extractLsb' 0 23).toNat = fr := by
    rw [BitVec.extractLsb'_toNat, hb, Nat.shiftRight_eq_div_pow]; omega
  have e3 : (b.extractLsb' 31 1 == 1#1) = false := by
    have : (b.extractLsb' 31 1).toNat = 0 := by
      rw [BitVec.extractLsb'_toNat, hb, Nat.shiftRight_eq_div_pow]; omega
    simp only [beq_eq_false_iff_ne, ne_eq]
    intro h; rw [h] at this; exact absurd this (by decide)
  unfold Ideal.ieee
  simp only [e1, e2, e3]
  rw [if_neg (by omega), if_neg (by omega)]
  have hx : ((ex : ℤ) - (2 ^ (8 - 1) - 1) - ((23 : ℕ) : ℤ)) = (ex : ℤ) - 150 := by norm_num; ring
  rw [hx]
  simp only [Bool.false_eq_true, if_false, one_mul]

/-- The two decodings of a half agree at every half that is neither infinite nor a NaN. -/
theorem halfDecoded_eq (d : BitVec 16) (hd : IntOp.andi (d.setWidth 32) 31744#32 ≠ 31744#32) :
    halfDecoded d = Ideal.ieee 5 10 d := by
  have hlt := d.isLt
  have hmag := magWord_toNat d
  have e1 : (d.extractLsb' 10 5).toNat = d.toNat / 1024 % 32 := by
    rw [BitVec.extractLsb'_toNat, Nat.shiftRight_eq_div_pow]
  have e2 : (d.extractLsb' 0 10).toNat = d.toNat % 1024 := by
    rw [BitVec.extractLsb'_toNat, Nat.shiftRight_eq_div_pow]; norm_num
  have e3 : (d.extractLsb' 15 1 == 1#1) = d.getLsbD 15 := by
    rw [Bool.eq_iff_iff, beq_iff_eq]
    constructor
    · intro h; have := congrArg (fun b => b.getLsbD 0) h; simpa using this
    · intro h; apply BitVec.eq_of_getLsbD_eq; intro i hi
      have : i = 0 := by omega
      subst this; simpa using h
  have hex : d.toNat / 1024 % 32 ≠ 31 := by
    intro h
    apply hd
    apply BitVec.eq_of_toNat_eq
    rw [IntOp.andi, BitVec.toNat_and, BitVec.toNat_setWidth]
    show (d.toNat % 2 ^ 32) &&& 31744 = 31744
    rw [Nat.mod_eq_of_lt (by omega)]
    apply Nat.eq_of_testBit_eq
    intro i
    rw [Nat.testBit_and]
    have h31 : ∀ k < 5, (31 : ℕ).testBit k = true := by decide
    by_cases hi : 10 ≤ i ∧ i < 15
    · have : d.toNat.testBit i = (d.toNat / 1024 % 32).testBit (i - 10) := by
        rw [show (1024 : ℕ) = 2 ^ 10 from rfl, show (32 : ℕ) = 2 ^ 5 from rfl, Nat.testBit_mod_two_pow, Nat.testBit_div_two_pow,
          show i - 10 + 10 = i by omega]
        simp; omega
      rw [this, h, h31 _ (by omega), Bool.true_and]
    · have : (31744 : ℕ).testBit i = false := by
        by_cases h16 : i < 16
        · interval_cases i <;> first | rfl | omega
        · exact Nat.testBit_lt_two_pow (Nat.lt_of_lt_of_le (by norm_num : 31744 < 2 ^ 16) (Nat.pow_le_pow_right (by norm_num) (by omega)))
      rw [this, Bool.and_false]
  have hslt : IntOp.cmpi .slt (magWord d) 1024#32 = BitVec.ofBool (decide (d.toNat % 32768 < 1024)) := by
    have hi : (magWord d).toInt = ((d.toNat % 32768 : ℕ) : ℤ) := by
      rw [BitVec.toInt_eq_toNat_of_lt (by rw [hmag]; omega), hmag]
    show BitVec.ofBool ((magWord d).slt 1024#32) = _
    rw [BitVec.slt_eq_decide, hi]
    congr 1
    rw [decide_eq_decide]
    show _ < (1024 : ℤ) ↔ _
    omega
  have hsgn : Scalar.select (IntOp.cmpi .ne (IntOp.shli .vector (IntOp.andi (d.setWidth 32) 32768#32) 16#32) 0#32)
      (Ideal.ieee 8 23 0xBF800000#32) (Ideal.ieee 8 23 0x3F800000#32) = (((if d.getLsbD 15 then -1 else 1 : ℝ)) : EReal) := by
    rw [signCond_eq]
    cases d.getLsbD 15
    · show Ideal.ieee 8 23 0x3F800000#32 = _
      simp [Ideal.ieee, -EReal.coe_mul]; norm_num
    · show Ideal.ieee 8 23 0xBF800000#32 = _
      simp [Ideal.ieee, -EReal.coe_mul]; norm_num
  have hval : Scalar.select (BitVec.ofBool (decide (d.toNat % 32768 < 1024)))
      ((((magWord d).toInt : ℝ) : EReal) * Ideal.ieee 8 23 0x33800000#32)
      (Ideal.ieee 8 23 (IntOp.addi (IntOp.shli .vector (magWord d) 13#32) 939524096#32))
      = (if d.toNat / 1024 % 32 = 0 then ((d.toNat % 1024 : ℕ) : ℝ) * (2 : ℝ) ^ (-24 : ℤ)
          else ((2 ^ 10 + d.toNat % 1024 : ℕ) : ℝ) * (2 : ℝ) ^ (((d.toNat / 1024 % 32 : ℕ) : ℤ) - 25) : ℝ) := by
    by_cases h0 : d.toNat / 1024 % 32 = 0
    · have hi : (magWord d).toInt = ((d.toNat % 1024 : ℕ) : ℤ) := by
        rw [BitVec.toInt_eq_toNat_of_lt (by rw [hmag]; omega), hmag]; omega
      have hsub : Ideal.ieee 8 23 0x33800000#32 = (((2 : ℝ) ^ (-24 : ℤ) : ℝ) : EReal) := by
        refine (ieee32_normal _ 103 0 (by norm_num) (by norm_num) (by norm_num) (by simp)).trans ?_
        refine congrArg _ ?_
        norm_num
      rw [if_pos h0, decide_eq_true (by omega : d.toNat % 32768 < 1024)]
      refine (show Scalar.select (BitVec.ofBool true) _ _ = _ from select_one _ _).trans ?_
      rw [hi, hsub, ← EReal.coe_mul, Int.cast_natCast]
    · rw [if_neg h0, decide_eq_false (by omega : ¬ d.toNat % 32768 < 1024)]
      refine (show Scalar.select (BitVec.ofBool false) _ _ = _ from select_zero _ _).trans ?_
      have hsh : IntOp.shli .vector (magWord d) 13#32 = magWord d <<< 13 := rfl
      refine (ieee32_normal _ (d.toNat / 1024 % 32 + 112) (d.toNat % 1024 * 2 ^ 13) (by omega) (by omega) (by omega) (by
        rw [hsh, IntOp.addi, BitVec.toNat_add, BitVec.toNat_shiftLeft, hmag, Nat.shiftLeft_eq]
        show (d.toNat % 32768 * 2 ^ 13 % 2 ^ 32 + 939524096) % 2 ^ 32 = _
        omega)).trans ?_
      refine congrArg _ ?_
      have hx : (((d.toNat / 1024 % 32 + 112 : ℕ) : ℤ) - 150) = (((d.toNat / 1024 % 32 : ℕ) : ℤ) - 25) + (-13 : ℤ) := by push_cast; ring
      rw [hx, zpow_add₀ (by norm_num : (2 : ℝ) ≠ 0)]
      push_cast
      norm_num
      ring
  unfold halfDecoded
  rw [hsgn, hslt, hval, ← EReal.coe_mul]
  unfold Ideal.ieee
  simp only [e1, e2, e3]
  rw [if_neg (show ¬ d.toNat / 1024 % 32 = 2 ^ 5 - 1 from hex)]
  by_cases h0 : d.toNat / 1024 % 32 = 0
  · rw [if_pos h0, if_pos h0]
    refine congrArg _ ?_
    have hx : ((1 : ℤ) - (2 ^ (5 - 1) - 1) - ((10 : ℕ) : ℤ)) = -24 := by norm_num
    rw [hx]
    ring
  · rw [if_neg h0, if_neg h0]
    refine congrArg _ ?_
    have hx : (((d.toNat / 1024 % 32 : ℕ) : ℤ) - (2 ^ (5 - 1) - 1) - ((10 : ℕ) : ℤ)) = ((d.toNat / 1024 % 32 : ℕ) : ℤ) - 25 := by
      norm_num; ring
    rw [hx]
    ring

/-! ## The codes -/

/-- The code of one weight, as a word: two low bits of `q` at bit `2j`, the third at bit `s` of `h`, less four. -/
def codeWord (q h : BitVec 8) (j s : ℕ) : BitVec 32 :=
  IntOp.subi (IntOp.addi (IntOp.andi (IntOp.shrsi .vector (q.setWidth 32) (BitVec.ofNat 32 (2 * j))) 3#32)
    (IntOp.muli 4#32 (IntOp.andi (IntOp.shrsi .vector (h.setWidth 32) (BitVec.ofNat 32 s)) 1#32))) 4#32

/-- The code of one weight. -/
def code (q h : BitVec 8) (j s : ℕ) : EReal := (((codeWord q h j s).toInt : ℝ) : EReal)

/-- The low bits of a widened byte shifted right, read at a bit. -/
theorem shrsi_byte_getLsbD (q : BitVec 8) (n : ℕ) (hn : n < 32) (i : ℕ) :
    (IntOp.shrsi .vector (q.setWidth 32) (BitVec.ofNat 32 n)).getLsbD i = q.getLsbD (n + i) := by
  have h1 : (BitVec.ofNat 32 n).toNat = n := by rw [BitVec.toNat_ofNat]; omega
  rw [IntOp.shrsi, if_pos (by rw [h1]; exact hn)]
  have hmsb : (q.setWidth 32).msb = false := by
    rw [BitVec.msb_eq_getLsbD_last, BitVec.getLsbD_setWidth]
    simp [BitVec.getLsbD_of_ge q 31 (by omega)]
  have past : ∀ k, 8 ≤ k → q.getLsbD k = false := fun k hk => BitVec.getLsbD_of_ge q k hk
  show ((q.setWidth 32).sshiftRight (BitVec.ofNat 32 n).toNat).getLsbD i = _
  rw [h1, BitVec.getLsbD_sshiftRight, hmsb, BitVec.getLsbD_setWidth]
  by_cases h : n + i < 8
  · simp [show n + i < 32 by omega, show i < 32 by omega]
  · simp [past (n + i) (by omega)]

/-- A byte that holds the two low bits at bits 0 and 1 and the third at bit 2 reads, less four, as the code. -/
theorem byte_sub_four (y q h : BitVec 8) (j s : ℕ) (hj : j < 4) (hs : s < 8)
    (hy : ∀ u < 8, y.getLsbD u = ((decide (u < 2) && q.getLsbD (2 * j + u)) || (decide (u = 2) && h.getLsbD s))) :
    ((y.toInt : ℝ) : EReal) - Ideal.ieee 8 7 0x4080#16 = code q h j s := by
  have hlow : IntOp.andi (IntOp.shrsi .vector (q.setWidth 32) (BitVec.ofNat 32 (2 * j))) 3#32
      = (BitVec.ofBool (q.getLsbD (2 * j))).setWidth 32 ||| ((BitVec.ofBool (q.getLsbD (2 * j + 1))).setWidth 32 <<< 1) := by
    apply BitVec.eq_of_getLsbD_eq
    intro i hi
    rw [IntOp.andi, BitVec.getLsbD_and, shrsi_byte_getLsbD q _ (by omega)]
    have h3 : (3#32 : BitVec 32).getLsbD i = decide (i < 2) := by interval_cases i <;> rfl
    rw [h3]
    by_cases h2 : i < 2
    · interval_cases i <;> simp
    · have e0 : i ≠ 0 := by omega
      have e1 : i - 1 ≠ 0 := by omega
      simp [h2, hi, e0, e1, BitVec.getLsbD_ofBool]
  have hhigh : IntOp.andi (IntOp.shrsi .vector (h.setWidth 32) (BitVec.ofNat 32 s)) 1#32
      = (BitVec.ofBool (h.getLsbD s)).setWidth 32 := by
    apply BitVec.eq_of_getLsbD_eq
    intro i hi
    rw [IntOp.andi, BitVec.getLsbD_and, shrsi_byte_getLsbD h _ (by omega)]
    have h3 : (1#32 : BitVec 32).getLsbD i = decide (i = 0) := by interval_cases i <;> rfl
    rw [h3]
    by_cases h2 : i = 0
    · subst h2; simp
    · simp [h2, BitVec.getLsbD_ofBool]
  have hyv : y = (BitVec.ofBool (q.getLsbD (2 * j))).setWidth 8 ||| ((BitVec.ofBool (q.getLsbD (2 * j + 1))).setWidth 8 <<< 1)
      ||| ((BitVec.ofBool (h.getLsbD s)).setWidth 8 <<< 2) := by
    apply BitVec.eq_of_getLsbD_eq
    intro i hi
    rw [hy i hi]
    interval_cases i <;> simp [BitVec.getLsbD_ofBool]
  have hfour : Ideal.ieee 8 7 0x4080#16 = ((4 : ℝ) : EReal) := by
    simp [Ideal.ieee, -EReal.coe_mul]; norm_num
  unfold code codeWord
  rw [hlow, hhigh, hyv, hfour, ← EReal.coe_sub]
  congr 1
  have key : ∀ a b c : Bool,
      ((BitVec.ofBool a).setWidth 8 ||| ((BitVec.ofBool b).setWidth 8 <<< 1) ||| ((BitVec.ofBool c).setWidth 8 <<< 2)).toInt - 4
        = (IntOp.subi (IntOp.addi ((BitVec.ofBool a).setWidth 32 ||| ((BitVec.ofBool b).setWidth 32 <<< 1))
            (IntOp.muli 4#32 ((BitVec.ofBool c).setWidth 32))) 4#32).toInt := by decide
  have := key (q.getLsbD (2 * j)) (q.getLsbD (2 * j + 1)) (h.getLsbD s)
  rw [← this]
  push_cast
  rfl

/-! ## The words of four bytes -/

/-- Bits 0 and 1 of every byte. -/
theorem maskLow_getLsbD (i : ℕ) (hi : i < 32) : (50529027#32 : BitVec 32).getLsbD i = decide (i % 8 < 2) := by
  interval_cases i <;> rfl

/-- Bit 2 of every byte. -/
theorem maskHigh_getLsbD (i : ℕ) (hi : i < 32) : (67372036#32 : BitVec 32).getLsbD i = decide (i % 8 = 2) := by
  interval_cases i <;> rfl

/-- A word moved so that bit `s` of each byte stands at that byte's bit 2. -/
def maskMoved (w : BitVec 32) : ℕ → BitVec 32
  | 0 => IntOp.shli .vector w 2#32
  | 1 => IntOp.shli .vector w 1#32
  | s + 2 => IntOp.shrsi .vector w (BitVec.ofNat 32 s)

theorem shrsi_getLsbD (w : BitVec 32) (n i : ℕ) (hn : n < 32) (hi : n + i < 32) :
    (IntOp.shrsi .vector w (BitVec.ofNat 32 n)).getLsbD i = w.getLsbD (n + i) := by
  have h1 : (BitVec.ofNat 32 n).toNat = n := by rw [BitVec.toNat_ofNat]; omega
  rw [IntOp.shrsi, if_pos (by rw [h1]; exact hn)]
  show (w.sshiftRight (BitVec.ofNat 32 n).toNat).getLsbD i = _
  rw [h1, BitVec.getLsbD_sshiftRight]
  simp [hi, show i < 32 by omega]

theorem maskMoved_getLsbD (w : BitVec 32) (s e : ℕ) (hs : s < 8) (he : e < 4) :
    (maskMoved w s).getLsbD (8 * e + 2) = w.getLsbD (8 * e + s) := by
  match s, hs with
  | 0, _ =>
    show (w <<< 2).getLsbD (8 * e + 2) = _
    rw [BitVec.getLsbD_shiftLeft]; simp [show 8 * e + 2 < 32 by omega]
  | 1, _ =>
    show (w <<< 1).getLsbD (8 * e + 2) = _
    rw [BitVec.getLsbD_shiftLeft]; simp [show 8 * e + 2 < 32 by omega]
  | s + 2, hs =>
    show (IntOp.shrsi .vector w (BitVec.ofNat 32 s)).getLsbD (8 * e + 2) = _
    rw [shrsi_getLsbD w s _ (by omega) (by omega)]
    congr 1; omega

/-- Bit `u` of byte `e` of the packed word of codes. -/
theorem packed_getLsbD (q w : BitVec 32) (j s e u : ℕ) (hj : j < 4) (hs : s < 8) (he : e < 4) (hu : u < 8) :
    (IntOp.ori (IntOp.andi (IntOp.shrsi .vector q (BitVec.ofNat 32 (2 * j))) 50529027#32)
        (IntOp.andi (maskMoved w s) 67372036#32)).getLsbD (8 * e + u)
      = ((decide (u < 2) && q.getLsbD (8 * e + (2 * j + u))) || (decide (u = 2) && w.getLsbD (8 * e + s))) := by
  have hm : (8 * e + u) % 8 = u := by omega
  rw [IntOp.ori, BitVec.getLsbD_or, IntOp.andi, IntOp.andi, BitVec.getLsbD_and, BitVec.getLsbD_and,
    maskLow_getLsbD _ (by omega), maskHigh_getLsbD _ (by omega), hm]
  congr 1
  · by_cases h : u < 2
    · rw [shrsi_getLsbD q _ _ (by omega) (by omega), show 2 * j + (8 * e + u) = 8 * e + (2 * j + u) by omega, Bool.and_comm]
    · simp [h]
  · by_cases h : u = 2
    · subst h; rw [maskMoved_getLsbD w s e hs he, Bool.and_comm]
    · simp [h]

/-- Thirty-two-bit words read as bytes: bit `u` of row `p` is bit `8 (p % 4) + u` of row `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (u : ℕ) (hu : u < 8) (a : Fin r)
    (ha : a.val = p.val / 4) :
    (bitcast ⟨2, ![R, n]⟩ 8 x h (ix2 p l)).getLsbD u = (x (ix2 a l)).getLsbD (8 * (p.val % 4) + u) := by
  rw [bitcast_getLsbD x h _ u hu (by decide)]
  have hrow : (⟨2, ![R, n]⟩ : Shape).row (ix2 p l) = p.val := by rfl
  have e2 : (((⟨2, ![R, n]⟩ : Shape).row (ix2 p l)) * 8 + u) % 32 = 8 * (p.val % 4) + u := by rw [hrow]; omega
  have e1 : (((⟨2, ![R, n]⟩ : Shape).row (ix2 p l)) * 8 + u) / 32 = a.val := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

end Cert.Q3K
-- ==== Proof.Spec.lean ====
module

public import proofs.«01_k».proof.Proof.Words
public import Idealize.ShloMosaic.Lib.ValueIdx
public import Idealize.ShloMosaic.PureOps.Reduce
public import Idealize.ShloMosaic.PureOps.Ideal.Laws

@[expose] public section

noncomputable section

namespace Cert.Q3K

open Idealize.ShloMosaic Idealize.ShloMosaic.ValueIdx

/-! ## What both programs compute, one element at a time

The weights' columns are cut into tiles of sixteen; tile `n` of a row is group `n % 16` of block `n / 16`. -/

/-- The integer factor of group `i`, as a word: four bits of `lo`, two of `hi`, less 32. -/
def scaleWord (lo hi : BitVec 8) (i : ℕ) : BitVec 32 :=
  IntOp.subi (IntOp.ori (IntOp.andi (IntOp.shrsi .vector (lo.setWidth 32) (BitVec.ofNat 32 (4 * (i / 8)))) 15#32)
    (IntOp.shli .vector (IntOp.andi (IntOp.shrsi .vector (hi.setWidth 32) (BitVec.ofNat 32 (2 * (i / 4)))) 3#32) 4#32)) 32#32

/-- The gain of group `i` whose block's factor is `v`. -/
def gain (v : EReal) (lo hi : BitVec 8) (i : ℕ) : EReal := v * (((scaleWord lo hi i).toInt : ℝ) : EReal)

/-- One weight: the code of tile `n` from its bytes, times the tile's gain. -/
def weight (q h lo hi : BitVec 8) (v : EReal) (n : ℕ) : EReal :=
  code q h (n % 8 / 2) (4 * (n % 16 / 8) + n % 8 / 2) * gain v lo hi (n % 16)

/-- The largest magnitude of a run of 256 values. -/
def amax (f : Fin 256 → EReal) : EReal :=
  (Finset.univ : Finset (Fin 256)).fold (FloatOps.maximumf (F := Ideal) (φ := .f32)) (FloatOps.ofBits (F := Ideal) .f32 0xFF800000#32)
    fun l => FloatOps.absf (F := Ideal) (φ := .f32) (f l)

/-- The scale of a run from its largest magnitude. -/
def scaleOf (a : EReal) : EReal :=
  Scalar.select (FloatOps.cmpf (F := Ideal) (φ := .f32) .oeq a (Ideal.ofBits .f32 0x00000000#32)) (Ideal.ofBits .f32 0x3F800000#32)
    (Ideal.div a (Ideal.ofBits .f32 0x42FE0000#32))

/-- The code of a value in a run of scale `s`. -/
def codeOf (y s : EReal) : BitVec 8 :=
  FloatOps.fptosi (F := Ideal) (φ := .f32) 8 (min (Ideal.ofBits .f32 0x42FE0000#32) (max (Ideal.ofBits .f32 0xC2FE0000#32)
    (FloatOps.roundeven (F := Ideal) (φ := .f32) (Ideal.div y s))))

/-- A row's maximum taken over the indices that drop to it is the maximum over its lanes. -/
theorem fold_fiber {s : Shape} {ι : Type*} [DecidableEq ι] (p : s.Idx → ι) (j : ι) (e : Fin 256 → s.Idx) (he : Function.Injective e)
    (hmem : ∀ i, p i = j ↔ ∃ l, e l = i) (y : s.Idx → EReal) :
    (Finset.univ.filter fun i => p i = j).fold (FloatOps.maximumf (F := Ideal) (φ := .f32)) (FloatOps.ofBits (F := Ideal) .f32 0xFF800000#32)
        (fun i => FloatOps.absf (F := Ideal) (φ := .f32) (y i))
      = amax fun l => y (e l) := by
  have : (Finset.univ.filter fun i => p i = j) = Finset.univ.map ⟨e, he⟩ := by
    ext i
    simp [hmem]
  rw [this, Finset.fold_map]
  rfl

end Cert.Q3K
-- ==== Proof.KernelRead.lean ====
module

public import proofs.«01_k».proof.Proof.Pieces
public import proofs.«01_k».proof.Proof.Spec
public import Idealize.ShloMosaic.Lib.Pipeline.Value
public import Idealize.ShloMosaic.Lib.Pipeline.ValueKit.Tiles
public import Idealize.ShloMosaic.Lib.MatmulPlain

@[expose] public section

set_option maxRecDepth 16384

noncomputable section

namespace Cert.KernelIdeal.Proof

open Idealize.ShloMosaic Idealize.ShloMosaic.TcCoe Idealize.ShloMosaic.ValueIdx
open Cert.KernelIdeal.Gen Cert.Q3K

/-! ## The body's values at an index -/

/-- A load of a block through a unit rectangle, at an index. -/
theorem readAt_unread_apply {F : FTy → Type} [FloatOps F] {s : Shape} {e : EltTy} (arg : Memref sig .tc .vmem s e) (harg : arg.IsWhole)
    (x : s.Idx → Elt F e) (off size : Fin s.rank → ℕ) (inb) (j : (Rect.unit (s := s) off size inb).shape.Idx) (i : s.Idx)
    (hi : ∀ a, (i a : ℕ) = off a + j a) :
    View.readAt (Elt F) arg.view (Rect.unit (s := s) off size inb).toLoadRect (harg.unread x) j = x i := by
  rw [View.readAt_eq_ld, Memref.IsWhole.read_unread]
  exact View.ld_unit_apply_of x off size inb j i hi

section Read

variable (arg2 : Memref sig .tc .vmem S28x32x256 .i8) (harg2 : arg2.IsWhole)
  (arg3 : Memref sig .tc .vmem S28x64x256 .i8) (harg3 : arg3.IsWhole)
  (arg4 : Memref sig .tc .vmem S12x28x256 .i8) (harg4 : arg4.IsWhole)
  (arg5 : Memref sig .tc .vmem S28x256 .i16) (harg5 : arg5.IsWhole)
  (arg9 : Memref sig .tc .vmem S16x28x2x256 .bf16)
  (x1 : Vec Ideal S28x32x256 .i8) (x2 : Vec Ideal S28x64x256 .i8) (x3 : Vec Ideal S12x28x256 .i8) (x4 : Vec Ideal S28x256 .i16)

/-- Bit `8e + u` of the mask word of row `a` is bit `u` of mask byte `4a + e`. -/
theorem hmWord_getLsbD (b : Fin 28) (a : Fin 8) (c : Fin 256) (e u : ℕ) (he : e < 4) (hu : u < 8) :
    (hmWord arg2 harg2 x1 b (ix2 a c)).getLsbD (8 * e + u)
      = BitVec.getLsbD (w := 8) (x1 (ix3 b ⟨4 * a.val + e, by omega⟩ c)) u := by
  unfold hmWord
  rw [bitcast_8_32_getLsbD_ix2 _ _ a c _ (by omega) ⟨4 * a.val + e, by omega⟩ (by show 4 * a.val + e = _; omega),
    show (8 * e + u) % 8 = u by omega]
  congr 1
  rw [shapeCast_apply _ _ _ (ix3 (⟨0, Nat.one_pos⟩ : Fin 1) ⟨4 * a.val + e, by omega⟩ c) (by
    rw [Shape.rowMajor_val_three, Shape.rowMajor_val_two]; show (0 * 32 + _) * 256 + _ = _; simp)]
  exact readAt_unread_apply arg2 harg2 x1 ![b.val, 0, 0] S1x32x256.size (inb_hm b) _ _ (by
    intro a; fin_cases a <;> simp)

/-- Bit `8e + u` of the word of low bits of row `a` is bit `u` of byte `32h + 4a + e`. -/
theorem qsWord_getLsbD (b : Fin 28) (h : Fin 2) (a : Fin 8) (c : Fin 256) (e u : ℕ) (he : e < 4) (hu : u < 8) :
    (qsWord arg3 harg3 x2 b h (ix2 a c)).getLsbD (8 * e + u)
      = BitVec.getLsbD (w := 8) (x2 (ix3 b ⟨32 * h.val + (4 * a.val + e), by omega⟩ c)) u := by
  unfold qsWord
  rw [bitcast_8_32_getLsbD_ix2 _ _ a c _ (by omega) ⟨4 * a.val + e, by omega⟩ (by show 4 * a.val + e = _; omega),
    show (8 * e + u) % 8 = u by omega]
  congr 1
  rw [shapeCast_apply _ _ _ (ix3 (⟨0, Nat.one_pos⟩ : Fin 1) ⟨4 * a.val + e, by omega⟩ c) (by
    rw [Shape.rowMajor_val_three, Shape.rowMajor_val_two]; show (0 * 32 + _) * 256 + _ = _; simp)]
  exact readAt_unread_apply arg3 harg3 x2 ![b.val, 32 * h.val, 0] S1x32x256.size (inb_qs b h) _ _ (by
    intro a; fin_cases a <;> simp)

theorem maskTo2_apply (w : IVec S8x256 32) (s : ℕ) (i : S8x256.Idx) : maskTo2 w s i = maskMoved (w i) s := by
  match s with
  | 0 => rfl
  | 1 => rfl
  | s + 2 => rfl

/-- A tile of codes at row `l`. -/
theorem codeTile_apply (b : Fin 28) (h : Fin 2) (j : Fin 4) (l : Fin 32) (c : Fin 256) :
    codeTile (F := Ideal) (hmWord arg2 harg2 x1 b) (qsWord arg3 harg3 x2 b h) h j (ix2 l c)
      = code (x2 (ix3 b ⟨32 * h.val + l.val, by omega⟩ c)) (x1 (ix3 b l c)) j.val (4 * h.val + j.val) := by
  unfold codeTile
  refine byte_sub_four _ _ _ _ _ j.isLt (by omega) ?_
  intro u hu
  rw [bitcast_32_8_getLsbD_ix2 _ _ l c u hu ⟨l.val / 4, by omega⟩ rfl]
  have hw := packed_getLsbD (qsWord arg3 harg3 x2 b h (ix2 ⟨l.val / 4, by omega⟩ c)) (hmWord arg2 harg2 x1 b (ix2 ⟨l.val / 4, by omega⟩ c))
    j.val (4 * h.val + j.val) (l.val % 4) u j.isLt (by omega) (by omega) hu
  have hl : 4 * (l.val / 4) + l.val % 4 = l.val := by omega
  have e1 : (⟨4 * (l.val / 4) + l.val % 4, by omega⟩ : Fin 32) = l := Fin.ext hl
  have e2 : (⟨32 * h.val + (4 * (l.val / 4) + l.val % 4), by omega⟩ : Fin 64) = ⟨32 * h.val + l.val, by omega⟩ := Fin.ext (by simp only [hl])
  rw [hmWord_getLsbD arg2 harg2 x1 b _ c _ _ (by omega) (by omega), e1] at hw
  refine Eq.trans ?_ (hw.trans ?_)
  · rw [← maskTo2_apply]; rfl
  · congr 1
    by_cases h2 : u < 2
    · rw [qsWord_getLsbD arg3 harg3 x2 b h _ c _ _ (by omega) (by omega), e2]
    · simp [h2]

/-- A scale byte's word. -/
theorem scWord_apply (i : Fin 12) (b : Fin 28) (c : Fin 256) :
    scWord arg4 harg4 x3 i (ix2 b c) = BitVec.setWidth (w := 8) 32 (x3 (ix3 i b c)) := by
  unfold scWord
  rw [extui_apply, shapeCast_apply _ _ _ (ix3 (⟨0, Nat.one_pos⟩ : Fin 1) b c) (by
    rw [Shape.rowMajor_val_three, Shape.rowMajor_val_two]; show (0 * 28 + _) * 256 + _ = _; simp)]
  congr 1
  exact readAt_unread_apply arg4 harg4 x3 ![i.val, 0, 0] S1x28x256.size (inb_sc i) _ _ (by
    intro a; fin_cases a <;> simp)

/-- The decoded half. -/
theorem half_apply (b : Fin 28) (c : Fin 256) :
    k0_pay2 (F := Ideal) (View.readAt (Elt Ideal) arg5.view
        (Rect.unit (s := S28x256) ![0, 0] S28x256.size inb_S28x256_S28x256_0_0).toLoadRect (harg5.unread x4)) (ix2 b c)
      = halfDecoded (x4 (ix2 b c)) := by
  have hx : View.readAt (Elt Ideal) arg5.view
        (Rect.unit (s := S28x256) ![0, 0] S28x256.size inb_S28x256_S28x256_0_0).toLoadRect (harg5.unread x4) = x4 := by
    funext i
    exact readAt_unread_apply arg5 harg5 x4 ![0, 0] S28x256.size inb_S28x256_S28x256_0_0 i i (by
      intro a; fin_cases a <;> simp)
  rw [hx]
  unfold k0_pay2
  rw [shapeCast_self]
  rfl

/-- Both halves of a gain's word are the gain. -/
theorem bothHalves_apply (g : FVec Ideal S28x256 .bf16) (z : Fin 1) (b : Fin 28) (p : Fin 2) (c : Fin 256) :
    bothHalves (F := Ideal) g (ix4 z b p c) = g (ix2 b c) := by
  have hc : ∀ j : S1x28x1x256.Idx, (j 1 : ℕ) = b.val → (j 3 : ℕ) = c.val →
      shapeCast S1x28x1x256 (shapeCast S1x28x256 g shapeCasts_S28x256_S1x28x256) shapeCasts_S1x28x256_S1x28x1x256 j = g (ix2 b c) := by
    intro j h1 h3
    have h0 : (j 0 : ℕ) < 1 := (j 0).isLt
    have h2 : (j 2 : ℕ) < 1 := (j 2).isLt
    rw [shapeCast_apply _ _ _ (ix3 (⟨0, Nat.one_pos⟩ : Fin 1) b c) (by
      rw [Shape.rowMajor_val_four, Shape.rowMajor_val_three]
      show (0 * 28 + b.val) * 256 + c.val = (((j 0).val * 28 + (j 1).val) * 1 + (j 2).val) * 256 + (j 3).val; omega)]
    rw [shapeCast_apply _ _ _ (ix2 b c) (by
      rw [Shape.rowMajor_val_three, Shape.rowMajor_val_two]; show b.val * 256 + c.val = (0 * 28 + b.val) * 256 + c.val; omega)]
  unfold bothHalves
  unfold interleaveRows
  dsimp only
  split
  · exact hc _ rfl rfl
  · exact hc _ rfl rfl

/-- The gain of group `i` of block `b`, as stored: in both halves of its word. -/
theorem gainPiece_apply (i : Fin 16) (b : Fin 28) (c : Fin 256) (z : Fin 1) (p : Fin 2) :
    gainPiece (F := Ideal) arg4 harg4 arg5 harg5 x3 x4 i (ix4 z b p c)
      = gain (halfDecoded (x4 (ix2 b c))) (x3 (ix3 ⟨i.val % 8, by omega⟩ b c)) (x3 (ix3 ⟨8 + i.val % 4, by omega⟩ b c)) i.val := by
  unfold gainPiece
  rw [bothHalves_apply]
  unfold gainRows
  rw [truncf_apply, extf_apply, truncf_apply, mulf_apply, half_apply]
  unfold gain scaleWord
  rw [← scWord_apply arg4 harg4 x3, ← scWord_apply arg4 harg4 x3]
  rfl

/-- Every row of a half, repeated, is that half of the group's words. -/
theorem gainHalf_apply (q : Fin 2) (i : Fin 16) (gv : Vec Ideal S16x1x2x256 .bf16) (j : S8x256.Idx) (c : Fin 256) (hj : (j 1 : ℕ) = c.val) :
    gainHalf (F := Ideal) q i gv j = gv (ix4 i (⟨0, Nat.one_pos⟩ : Fin 1) q c) := by
  unfold gainHalf
  refine (concatenate_replicate_apply (t := S8x256) (s₁ := S1x256) 0 8 _
    concatenates_S1x256_S1x256_S1x256_S1x256_S1x256_S1x256_S1x256_S1x256_S8x256_d0 rfl j (ix2 (⟨0, Nat.one_pos⟩ : Fin 1) c) ?_ ?_).trans ?_
  · show 0 = (j 0).val % 1; omega
  · intro b hb; fin_cases b
    · exact absurd rfl hb
    · exact hj.symm
  · rw [shapeCast_apply _ _ _ (ix3 (⟨0, Nat.one_pos⟩ : Fin 1) (⟨0, Nat.one_pos⟩ : Fin 1) c) (by
      rw [Shape.rowMajor_val_three, Shape.rowMajor_val_two]; simp)]
    rw [extractStridedSlice_apply _ _ _ _ (ix3 i (⟨0, Nat.one_pos⟩ : Fin 1) c) (by
      intro a; fin_cases a <;> simp)]
    rw [shapeCast_apply _ _ _ (ix4 i (⟨0, Nat.one_pos⟩ : Fin 1) (⟨0, Nat.one_pos⟩ : Fin 1) c) (by
      rw [Shape.rowMajor_val_three, Shape.rowMajor_val_four]; simp)]
    unfold rowsOfParity
    congr 1
    funext a
    apply Fin.ext
    fin_cases a
    · rfl
    · rfl
    · show 2 * 0 + q.val = q.val; omega
    · rfl

/-- One weight, as stored in tile `n`. -/
theorem weightPiece_apply (n : Fin 448) (r : Fin 16) (c : Fin 256) :
    weightPiece (F := Ideal) arg2 harg2 arg3 harg3 arg4 harg4 arg5 harg5 arg9 x1 x2 x3 x4 n (ix2 r c)
      = weight (x2 (ix3 ⟨n.val / 16, by omega⟩ ⟨32 * (n.val % 16 / 8) + (16 * (n.val % 2) + r.val), by omega⟩ c))
          (x1 (ix3 ⟨n.val / 16, by omega⟩ ⟨16 * (n.val % 2) + r.val, by omega⟩ c))
          (x3 (ix3 ⟨n.val % 16 % 8, by omega⟩ ⟨n.val / 16, by omega⟩ c))
          (x3 (ix3 ⟨8 + n.val % 16 % 4, by omega⟩ ⟨n.val / 16, by omega⟩ c))
          (halfDecoded (x4 (ix2 ⟨n.val / 16, by omega⟩ c))) n.val := by
  unfold weightPiece weightTile
  rw [shapeCast_self, mulf_apply]
  rw [extractStridedSlice_apply _ _ _ _ (ix2 (⟨16 * (n.val % 2) + r.val, by omega⟩ : Fin 32) c) (by
    intro a; fin_cases a <;> simp)]
  rw [codeTile_apply]
  unfold weight
  congr 1
  have hg : ∀ q : Fin 2, arg9.view.readCov (gainPieces arg4 harg4 arg5 harg5 x3 x4)
      (Rect.unit (s := S16x28x2x256) ![0, n.val / 16, 0, 0] S16x1x2x256.size (inb_gb ⟨n.val / 16, by omega⟩)).toLoadRect
        (ix4 (⟨n.val % 16, by omega⟩ : Fin 16) (⟨0, Nat.one_pos⟩ : Fin 1) q c)
      = gain (halfDecoded (x4 (ix2 ⟨n.val / 16, by omega⟩ c))) (x3 (ix3 ⟨n.val % 16 % 8, by omega⟩ ⟨n.val / 16, by omega⟩ c))
          (x3 (ix3 ⟨8 + n.val % 16 % 4, by omega⟩ ⟨n.val / 16, by omega⟩ c)) (n.val % 16) := by
    intro q
    refine Eq.trans ?_ (gainPiece_apply arg4 harg4 arg5 harg5 x3 x4 ⟨n.val % 16, by omega⟩ ⟨n.val / 16, by omega⟩ c ⟨0, Nat.one_pos⟩ q)
    refine View.read_tilePieces arg9.view _ _ _ _ _ 16 _ _ (⟨n.val % 16, by omega⟩ : Fin 16) (by show n.val % 16 < 16; omega) _ ?_ 0 ?_
    · intro a; fin_cases a <;> simp <;> rfl
    · intro i' hi'
      have : i'.val ≠ n.val % 16 := fun h => hi' (Fin.ext h)
      show 0 + 1 * (n.val % 16) < i'.val ∨ i'.val + 1 ≤ 0 + 1 * (n.val % 16)
      omega
  unfold interleaveRows
  dsimp only
  split
  · exact (gainHalf_apply 0 _ _ _ c rfl).trans (hg 0)
  · exact (gainHalf_apply 1 _ _ _ c rfl).trans (hg 1)

variable (arg1 : Memref sig .tc .vmem S6x256x7168 .bf16) (harg1 : arg1.IsWhole)
  (arg10 : Memref sig .tc .vmem S7168x256 .bf16) (x0 : Vec Ideal S6x256x7168 .bf16)

/-- The weight at row `k`, as loaded. -/
theorem weights_apply (k : Fin 7168) (c : Fin 256) :
    weights (F := Ideal) arg2 harg2 arg3 harg3 arg4 harg4 arg5 harg5 arg9 x1 x2 x3 x4 arg10 (ix2 k c)
      = weight (x2 (ix3 ⟨k.val / 16 / 16, by omega⟩ ⟨32 * (k.val / 16 % 16 / 8) + (16 * (k.val / 16 % 2) + k.val % 16), by omega⟩ c))
          (x1 (ix3 ⟨k.val / 16 / 16, by omega⟩ ⟨16 * (k.val / 16 % 2) + k.val % 16, by omega⟩ c))
          (x3 (ix3 ⟨k.val / 16 % 16 % 8, by omega⟩ ⟨k.val / 16 / 16, by omega⟩ c))
          (x3 (ix3 ⟨8 + k.val / 16 % 16 % 4, by omega⟩ ⟨k.val / 16 / 16, by omega⟩ c))
          (halfDecoded (x4 (ix2 ⟨k.val / 16 / 16, by omega⟩ c))) (k.val / 16) := by
  unfold weights
  refine Eq.trans ?_ (weightPiece_apply arg2 harg2 arg3 harg3 arg4 harg4 arg5 harg5 arg9 x1 x2 x3 x4 ⟨k.val / 16, by omega⟩
    ⟨k.val % 16, by omega⟩ c)
  refine View.read_tilePieces arg10.view _ _ _ _ _ 448 _ _ (⟨k.val / 16, by omega⟩ : Fin 448) (by show k.val / 16 < 448; omega) _ ?_ 0 ?_
  · intro a; fin_cases a
    · show 0 + 1 * k.val = 16 * (k.val / 16) + k.val % 16; omega
    · show 0 + 1 * c.val = 0 + c.val; omega
  · intro i' hi'
    have : i'.val ≠ k.val / 16 := fun h => hi' (Fin.ext h)
    show 0 + 1 * k.val < 16 * i'.val ∨ 16 * i'.val + 16 ≤ 0 + 1 * k.val
    omega

/-- The activations, as loaded. -/
theorem xRows_apply (bi : Fin 6) (r : Fin 256) (k : Fin 7168) :
    xRows (F := Ideal) arg1 harg1 x0 bi (ix2 r k) = x0 (ix3 bi r k) := by
  unfold xRows
  rw [shapeCast_apply _ _ _ (ix3 (⟨0, Nat.one_pos⟩ : Fin 1) r k) (by
    rw [Shape.rowMajor_val_three, Shape.rowMajor_val_two]; show (0 * 256 + _) * 7168 + _ = _; simp)]
  exact readAt_unread_apply arg1 harg1 x0 ![bi.val, 0, 0] S1x256x7168.size (inb_x bi) _ _ (by
    intro a; fin_cases a <;> simp)

/-- The product of batch entry `bi` at an element. -/
theorem yBlock_apply (bi : Fin 6) (r c : Fin 256) :
    yBlock (F := Ideal) arg2 harg2 arg3 harg3 arg4 harg4 arg5 harg5 arg9 x1 x2 x3 x4 arg1 harg1 arg10 x0 bi (ix2 r c)
      = Ideal.ofBits .f32 0x00000000#32 + ∑ k : Fin 7168, x0 (ix3 bi r k)
          * weights (F := Ideal) arg2 harg2 arg3 harg3 arg4 harg4 arg5 harg5 arg9 x1 x2 x3 x4 arg10 (ix2 k c) := by
  unfold yBlock prod
  refine (Ideal.matmul_plain_apply none _ _ _ r c).trans ?_
  simp only [xRows_apply]
  rfl

/-! ### The tiles stored from a product -/

/-- A product's row scale. -/
theorem scaleCol_apply (y : FVec Ideal S256x256 .f32) (r : Fin 256) (z : Fin 1) :
    scaleCol (F := Ideal) y (ix2 r z) = scaleOf (amax fun l => y (ix2 r l)) := by
  have hm : shapeCast S256x1 (multiReduction .maximumf [1] S256 (absf y) 0xFF800000#32 reduces_S256x256_S256 (.inl rfl) rfl)
      shapeCasts_S256_S256x1 (ix2 r z) = amax fun l => y (ix2 r l) := by
    rw [shapeCast_apply _ _ _ (ix1 r) (by
      rw [Shape.rowMajor_val_one, Shape.rowMajor_val_two]; show r.val = r.val * 1 + z.val; omega)]
    refine (multiReduction_maximumf_eq_fold _ _ _ _ _ _).trans ?_
    refine fold_fiber (fun i => reduces_S256x256_S256.drop i) (ix1 r) (fun l => ix2 r l) ?_ ?_ y
    · intro l l' h; exact congrFun h 1
    · intro i
      have h0 : ((reduces_S256x256_S256.drop i) 0 : ℕ) = i 0 := reduces_S256x256_S256.drop_apply_val_of_eq i 0 0 (by decide)
      constructor
      · intro h
        refine ⟨i 1, ?_⟩
        have e : i 0 = r := Fin.ext (by rw [← h0, h])
        rw [← e]
        exact (eq_ix2 i).symm
      · rintro ⟨l, rfl⟩
        rw [eq_ix1 (reduces_S256x256_S256.drop (ix2 r l))]
        congr 1
  unfold scaleCol
  rw [select_apply, cmpf_apply, divf_apply, hm]
  rfl

theorem yTile_apply (y : FVec Ideal S256x256 .f32) (z : Fin 1) (r c : Fin 256) : yTile (F := Ideal) y (ix3 z r c) = y (ix2 r c) := by
  unfold yTile
  rw [shapeCast_apply _ _ _ (ix2 r c) (by
    rw [Shape.rowMajor_val_three, Shape.rowMajor_val_two]; have := z.isLt
    show r.val * 256 + c.val = (z.val * 256 + r.val) * 256 + c.val; omega)]
  rfl

/-- Rounding, clipping and narrowing act on each element. -/
theorem codes_apply {s : Shape} (y b : FVec Ideal s .f32) (i : s.Idx) :
    fptosi 8 (minimumf (broadcast s (Scalar.ofBits (F := Ideal) .f32 0x42FE0000#32))
      (maximumf (broadcast s (Scalar.ofBits (F := Ideal) .f32 0xC2FE0000#32)) (roundeven (divf y b)))) i = codeOf (y i) (b i) := rfl

theorem codesTile_apply (y : FVec Ideal S256x256 .f32) (z : Fin 1) (r c : Fin 256) :
    codesTile (F := Ideal) y (ix3 z r c) = codeOf (y (ix2 r c)) (scaleOf (amax fun l => y (ix2 r l))) := by
  unfold codesTile
  rw [shapeCast_apply _ _ _ (ix2 r c) (by
    rw [Shape.rowMajor_val_three, Shape.rowMajor_val_two]; have := z.isLt
    show r.val * 256 + c.val = (z.val * 256 + r.val) * 256 + c.val; omega)]
  have hb : broadcastTo S256x256 (scaleCol y) broadcasts_S256x1_S256x256 (ix2 r c) = scaleOf (amax fun l => y (ix2 r l)) := by
    rw [broadcastTo_apply _ _ _ (ix2 r (⟨0, Nat.one_pos⟩ : Fin 1)) (by
      intro a; fin_cases a <;> rfl), scaleCol_apply]
  rw [codes_apply, hb]

theorem scaleTile_apply (y : FVec Ideal S256x256 .f32) (z z' z'' : Fin 1) (r : Fin 256) :
    scaleTile (F := Ideal) y (ix4 z z' z'' r) = scaleOf (amax fun l => y (ix2 r l)) := by
  unfold scaleTile
  rw [shapeCast_apply _ _ _ (ix2 (⟨0, Nat.one_pos⟩ : Fin 1) r) (by
    rw [Shape.rowMajor_val_four, Shape.rowMajor_val_two]; have := z.isLt; have := z'.isLt; have := z''.isLt
    show 0 * 256 + r.val = ((z.val * 1 + z'.val) * 1 + z''.val) * 256 + r.val; omega)]
  rw [extractStridedSlice_apply _ _ _ _ (ix2 (⟨0, by omega⟩ : Fin 128) r) (by
    intro a; fin_cases a <;> simp)]
  rw [transpose_apply _ _ _ _ (ix2 r (⟨0, by omega⟩ : Fin 128)) (by
    intro b; fin_cases b <;> rfl)]
  rw [broadcastTo_apply _ _ _ (ix2 r (⟨0, Nat.one_pos⟩ : Fin 1)) (by
    intro a; fin_cases a <;> rfl)]
  rw [shapeCast_self, scaleCol_apply]

end Read

end Cert.KernelIdeal.Proof
-- ==== Proof.RefRead.lean ====
module

public import proofs.«01_k».proof.Proof.Gen.ReferenceIdeal.Value
public import proofs.«01_k».proof.Proof.Spec
public import Idealize.ShloMosaic.Lib.Pipeline.Value
public import Idealize.ShloMosaic.Lib.Pointwise.Contract

@[expose] public section

set_option maxRecDepth 16384

noncomputable section

namespace Cert.ReferenceIdeal.Proof

open Idealize.ShloMosaic hiding ix1 ix2 ix3 ix4 ix5
open Idealize.ShloMosaic.TcCoe Idealize.ShloMosaic.ValueIdx
open Cert.ReferenceIdeal.Gen Cert.ReferenceIdeal.Value Cert.Q3K

/-! ## The reference's values at an index -/

section Read

variable (x : Vec Ideal S6x256x7168 .bf16) (hm : Vec Ideal S2048x28x32 .i8) (qs : Vec Ideal S2048x28x64 .i8)
  (sc : Vec Ideal S2048x28x12 .i8) (d : Vec Ideal S2048x28 .i16)

/-- A shift amount built from a counter. -/
theorem mul_ofNat (a n : ℕ) : IntOp.muli (BitVec.ofNat 32 a) (BitVec.ofNat 32 n) = BitVec.ofNat 32 (a * n) := by
  apply BitVec.eq_of_toNat_eq
  simp [IntOp.muli, BitVec.toNat_mul, BitVec.toNat_ofNat, Nat.mul_mod]

/-- The gain of group `i` of block `b` of output row `o`. -/
theorem gain_apply (o : Fin 2048) (b : Fin 28) (i : Fin 16) :
    k0_pay3 (F := Ideal) sc d (ix3 o b i)
      = gain (Ideal.ieee 5 10 (w := 16) (d (ix2 o b))) (sc (ix3 o b ⟨i.val % 8, by omega⟩)) (sc (ix3 o b ⟨8 + i.val % 4, by omega⟩)) i.val := by
  unfold k0_pay3
  rw [truncf_apply, mulf_apply]
  unfold gain
  congr 1
  · rw [broadcastTo_apply _ _ _ (ix3 o b (⟨0, Nat.one_pos⟩ : Fin 1)) (by
      intro a; fin_cases a <;> rfl)]
    rw [shapeCast_apply _ _ _ (ix2 o b) (by
      rw [Shape.rowMajor_val_three, Shape.rowMajor_val_two]; show o.val * 28 + b.val = (o.val * 28 + b.val) * 1 + 0; omega)]
    rfl
  · unfold scaleWord
    rw [sitofp_apply]
    have hlo : shapeCast S2048x28x16 (andi (shrsi
        (broadcastTo S2048x28x2x8 (shapeCast S2048x28x1x8 (extractStridedSlice S2048x28x8 ![0, 0, 0] (extui 32 sc natLt_8_32)
          slices_S2048x28x12_o0_0_0_S2048x28x8) shapeCasts_S2048x28x8_S2048x28x1x8) broadcasts_S2048x28x1x8_S2048x28x2x8)
        (broadcastTo S2048x28x2x8 (muli (broadcast S1x1x2x1 4#32) (iota .tc S1x1x2x1 32 [2] iota_S1x1x2x1_d2_w32))
          broadcasts_S1x1x2x1_S2048x28x2x8)) (broadcast S2048x28x2x8 15#32)) shapeCasts_S2048x28x2x8_S2048x28x16 (ix3 o b i)
        = IntOp.andi (IntOp.shrsi .vector (BitVec.setWidth (w := 8) 32 (sc (ix3 o b ⟨i.val % 8, by omega⟩))) (BitVec.ofNat 32 (4 * (i.val / 8)))) 15#32 := by
      have hj := i.isLt
      rw [shapeCast_apply _ _ _ (ix4 o b (⟨i.val / 8, by omega⟩ : Fin 2) (⟨i.val % 8, by omega⟩ : Fin 8)) (by
        rw [Shape.rowMajor_val_three, Shape.rowMajor_val_four]
        show ((o.val * 28 + b.val) * 2 + i.val / 8) * 8 + i.val % 8 = (o.val * 28 + b.val) * 16 + i.val; omega)]
      show IntOp.andi (IntOp.shrsi .vector (broadcastTo _ _ _ _) (broadcastTo _ _ _ _)) 15#32 = _
      rw [broadcastTo_apply _ _ _ (ix4 o b (⟨0, Nat.one_pos⟩ : Fin 1) (⟨i.val % 8, by omega⟩ : Fin 8)) (by
        intro a; fin_cases a <;> rfl)]
      rw [broadcastTo_apply _ _ _ (ix4 (⟨0, Nat.one_pos⟩ : Fin 1) (⟨0, Nat.one_pos⟩ : Fin 1) (⟨i.val / 8, by omega⟩ : Fin 2) (⟨0, Nat.one_pos⟩ : Fin 1)) (by
        intro a; fin_cases a <;> rfl)]
      rw [shapeCast_apply _ _ _ (ix3 o b (⟨i.val % 8, by omega⟩ : Fin 8)) (by
        rw [Shape.rowMajor_val_three, Shape.rowMajor_val_four]
        show (o.val * 28 + b.val) * 8 + i.val % 8 = ((o.val * 28 + b.val) * 1 + 0) * 8 + i.val % 8; omega)]
      rw [extractStridedSlice_apply _ _ _ _ (ix3 o b (⟨i.val % 8, by omega⟩ : Fin 12)) (by
        intro a; fin_cases a <;> simp)]
      rw [show ∀ (v : IVec S1x1x2x1 32) k, muli (broadcast S1x1x2x1 4#32) v k = IntOp.muli (BitVec.ofNat 32 4) (v k) from fun _ _ => rfl,
        iota_single_apply, mul_ofNat]
      rfl
    have hhi : shapeCast S2048x28x16 (andi (shrsi
        (broadcastTo S2048x28x4x4 (shapeCast S2048x28x1x4 (extractStridedSlice S2048x28x4 ![0, 0, 8] (extui 32 sc natLt_8_32)
          slices_S2048x28x12_o0_0_8_S2048x28x4) shapeCasts_S2048x28x4_S2048x28x1x4) broadcasts_S2048x28x1x4_S2048x28x4x4)
        (broadcastTo S2048x28x4x4 (muli (broadcast S1x1x4x1 2#32) (iota .tc S1x1x4x1 32 [2] iota_S1x1x4x1_d2_w32))
          broadcasts_S1x1x4x1_S2048x28x4x4)) (broadcast S2048x28x4x4 3#32)) shapeCasts_S2048x28x4x4_S2048x28x16 (ix3 o b i)
        = IntOp.andi (IntOp.shrsi .vector (BitVec.setWidth (w := 8) 32 (sc (ix3 o b ⟨8 + i.val % 4, by omega⟩))) (BitVec.ofNat 32 (2 * (i.val / 4)))) 3#32 := by
      have hj := i.isLt
      rw [shapeCast_apply _ _ _ (ix4 o b (⟨i.val / 4, by omega⟩ : Fin 4) (⟨i.val % 4, by omega⟩ : Fin 4)) (by
        rw [Shape.rowMajor_val_three, Shape.rowMajor_val_four]
        show ((o.val * 28 + b.val) * 4 + i.val / 4) * 4 + i.val % 4 = (o.val * 28 + b.val) * 16 + i.val; omega)]
      show IntOp.andi (IntOp.shrsi .vector (broadcastTo _ _ _ _) (broadcastTo _ _ _ _)) 3#32 = _
      rw [broadcastTo_apply _ _ _ (ix4 o b (⟨0, Nat.one_pos⟩ : Fin 1) (⟨i.val % 4, by omega⟩ : Fin 4)) (by
        intro a; fin_cases a <;> rfl)]
      rw [broadcastTo_apply _ _ _ (ix4 (⟨0, Nat.one_pos⟩ : Fin 1) (⟨0, Nat.one_pos⟩ : Fin 1) (⟨i.val / 4, by omega⟩ : Fin 4) (⟨0, Nat.one_pos⟩ : Fin 1)) (by
        intro a; fin_cases a <;> rfl)]
      rw [shapeCast_apply _ _ _ (ix3 o b (⟨i.val % 4, by omega⟩ : Fin 4)) (by
        rw [Shape.rowMajor_val_three, Shape.rowMajor_val_four]
        show (o.val * 28 + b.val) * 4 + i.val % 4 = ((o.val * 28 + b.val) * 1 + 0) * 4 + i.val % 4; omega)]
      rw [extractStridedSlice_apply _ _ _ _ (ix3 o b (⟨8 + i.val % 4, by omega⟩ : Fin 12)) (by
        intro a; fin_cases a <;> simp)]
      rw [show ∀ (v : IVec S1x1x4x1 32) k, muli (broadcast S1x1x4x1 2#32) v k = IntOp.muli (BitVec.ofNat 32 2) (v k) from fun _ _ => rfl,
        iota_single_apply, mul_ofNat]
      rfl
    rw [← hlo, ← hhi]
    rfl

/-- The code at shift `j` of half `h` of block `b`, lane `l`. -/
theorem code_apply (o : Fin 2048) (b : Fin 28) (h : Fin 2) (j : Fin 4) (l : Fin 32) :
    sitofp (F := Ideal) .bf16 (subi (addi
        (andi (shrsi (broadcastTo S2048x28x2x4x32 (shapeCast S2048x28x2x1x32 (extui 32 qs natLt_8_32) shapeCasts_S2048x28x64_S2048x28x2x1x32)
            broadcasts_S2048x28x2x1x32_S2048x28x2x4x32)
          (broadcastTo S2048x28x2x4x32 (muli (broadcast S1x1x1x4x1 2#32) (iota .tc S1x1x1x4x1 32 [3] iota_S1x1x1x4x1_d3_w32))
            broadcasts_S1x1x1x4x1_S2048x28x2x4x32)) (broadcast S2048x28x2x4x32 3#32))
        (muli (broadcast S2048x28x2x4x32 4#32)
          (andi (shrsi (broadcastTo S2048x28x2x4x32 (shapeCast S2048x28x1x1x32 (extui 32 hm natLt_8_32) shapeCasts_S2048x28x32_S2048x28x1x1x32)
              broadcasts_S2048x28x1x1x32_S2048x28x2x4x32)
            (broadcastTo S2048x28x2x4x32 (addi
              (broadcastTo S1x1x2x4x1 (muli (broadcast S1x1x2x1x1 4#32) (iota .tc S1x1x2x1x1 32 [2] iota_S1x1x2x1x1_d2_w32))
                broadcasts_S1x1x2x1x1_S1x1x2x4x1)
              (broadcastTo S1x1x2x4x1 (iota .tc S1x1x1x4x1 32 [3] iota_S1x1x1x4x1_d3_w32) broadcasts_S1x1x1x4x1_S1x1x2x4x1))
              broadcasts_S1x1x2x4x1_S2048x28x2x4x32)) (broadcast S2048x28x2x4x32 1#32))))
        (broadcast S2048x28x2x4x32 4#32)) (ix5 o b h j l)
      = code (qs (ix3 o b ⟨32 * h.val + l.val, by omega⟩)) (hm (ix3 o b l)) j.val (4 * h.val + j.val) := by
  have hq : broadcastTo S2048x28x2x4x32 (shapeCast S2048x28x2x1x32 (extui 32 qs natLt_8_32) shapeCasts_S2048x28x64_S2048x28x2x1x32)
      broadcasts_S2048x28x2x1x32_S2048x28x2x4x32 (ix5 o b h j l) = BitVec.setWidth (w := 8) 32 (qs (ix3 o b ⟨32 * h.val + l.val, by omega⟩)) := by
    rw [broadcastTo_apply _ _ _ (ix5 o b h (⟨0, Nat.one_pos⟩ : Fin 1) l) (by intro a; fin_cases a <;> rfl)]
    rw [shapeCast_apply _ _ _ (ix3 o b (⟨32 * h.val + l.val, by omega⟩ : Fin 64)) (by
      rw [Shape.rowMajor_val_three, Shape.rowMajor_val_five]
      show (o.val * 28 + b.val) * 64 + (32 * h.val + l.val) = (((o.val * 28 + b.val) * 2 + h.val) * 1 + 0) * 32 + l.val; omega)]
    rfl
  have hh : broadcastTo S2048x28x2x4x32 (shapeCast S2048x28x1x1x32 (extui 32 hm natLt_8_32) shapeCasts_S2048x28x32_S2048x28x1x1x32)
      broadcasts_S2048x28x1x1x32_S2048x28x2x4x32 (ix5 o b h j l) = BitVec.setWidth (w := 8) 32 (hm (ix3 o b l)) := by
    rw [broadcastTo_apply _ _ _ (ix5 o b (⟨0, Nat.one_pos⟩ : Fin 1) (⟨0, Nat.one_pos⟩ : Fin 1) l) (by intro a; fin_cases a <;> rfl)]
    rw [shapeCast_apply _ _ _ (ix3 o b l) (by
      rw [Shape.rowMajor_val_three, Shape.rowMajor_val_five]
      show (o.val * 28 + b.val) * 32 + l.val = (((o.val * 28 + b.val) * 1 + 0) * 1 + 0) * 32 + l.val; omega)]
    rfl
  have hj : broadcastTo S2048x28x2x4x32 (muli (broadcast S1x1x1x4x1 2#32) (iota .tc S1x1x1x4x1 32 [3] iota_S1x1x1x4x1_d3_w32))
      broadcasts_S1x1x1x4x1_S2048x28x2x4x32 (ix5 o b h j l) = BitVec.ofNat 32 (2 * j.val) := by
    rw [broadcastTo_apply _ _ _ (ix5 (⟨0, Nat.one_pos⟩ : Fin 1) (⟨0, Nat.one_pos⟩ : Fin 1) (⟨0, Nat.one_pos⟩ : Fin 1) j (⟨0, Nat.one_pos⟩ : Fin 1)) (by
      intro a; fin_cases a <;> rfl)]
    show IntOp.muli (BitVec.ofNat 32 2) (iota _ _ _ _ _ _) = _
    rw [iota_single_apply]
    exact mul_ofNat 2 j.val
  have hs : broadcastTo S2048x28x2x4x32 (addi
      (broadcastTo S1x1x2x4x1 (muli (broadcast S1x1x2x1x1 4#32) (iota .tc S1x1x2x1x1 32 [2] iota_S1x1x2x1x1_d2_w32))
        broadcasts_S1x1x2x1x1_S1x1x2x4x1)
      (broadcastTo S1x1x2x4x1 (iota .tc S1x1x1x4x1 32 [3] iota_S1x1x1x4x1_d3_w32) broadcasts_S1x1x1x4x1_S1x1x2x4x1))
      broadcasts_S1x1x2x4x1_S2048x28x2x4x32 (ix5 o b h j l) = BitVec.ofNat 32 (4 * h.val + j.val) := by
    rw [broadcastTo_apply _ _ _ (ix5 (⟨0, Nat.one_pos⟩ : Fin 1) (⟨0, Nat.one_pos⟩ : Fin 1) h j (⟨0, Nat.one_pos⟩ : Fin 1)) (by
      intro a; fin_cases a <;> rfl)]
    show IntOp.addi (broadcastTo _ _ _ _) (broadcastTo _ _ _ _) = _
    rw [broadcastTo_apply _ _ _ (ix5 (⟨0, Nat.one_pos⟩ : Fin 1) (⟨0, Nat.one_pos⟩ : Fin 1) h (⟨0, Nat.one_pos⟩ : Fin 1) (⟨0, Nat.one_pos⟩ : Fin 1)) (by
      intro a; fin_cases a <;> rfl)]
    rw [broadcastTo_apply _ _ _ (ix5 (⟨0, Nat.one_pos⟩ : Fin 1) (⟨0, Nat.one_pos⟩ : Fin 1) (⟨0, Nat.one_pos⟩ : Fin 1) j (⟨0, Nat.one_pos⟩ : Fin 1)) (by
      intro a; fin_cases a <;> rfl)]
    show IntOp.addi (IntOp.muli (BitVec.ofNat 32 4) (iota _ _ _ _ _ _)) _ = _
    rw [iota_single_apply, iota_single_apply, mul_ofNat]
    exact (BitVec.ofNat_add _ _).symm
  unfold code codeWord
  rw [← hq, ← hh, ← hj, ← hs]
  rfl

/-- The weight of output row `o` at position `k`, from the arguments. -/
def refWeight (o : Fin 2048) (k : Fin 7168) : EReal :=
  weight (qs (ix3 o ⟨k.val / 16 / 16, by omega⟩ ⟨32 * (k.val / 16 % 16 / 8) + (16 * (k.val / 16 % 2) + k.val % 16), by omega⟩))
    (hm (ix3 o ⟨k.val / 16 / 16, by omega⟩ ⟨16 * (k.val / 16 % 2) + k.val % 16, by omega⟩))
    (sc (ix3 o ⟨k.val / 16 / 16, by omega⟩ ⟨k.val / 16 % 16 % 8, by omega⟩))
    (sc (ix3 o ⟨k.val / 16 / 16, by omega⟩ ⟨8 + k.val / 16 % 16 % 4, by omega⟩))
    (Ideal.ieee 5 10 (w := 16) (d (ix2 o ⟨k.val / 16 / 16, by omega⟩))) (k.val / 16)

/-- The product of row `r` of batch entry `bi` with output row `o`. -/
def refProd (bi : Fin 6) (r : Fin 256) (o : Fin 2048) : EReal :=
  Ideal.ofBits .f32 0x00000000#32 + ∑ k : Fin 7168, x (ix3 bi r k) * refWeight hm qs sc d o k

theorem prod_apply (bi : Fin 6) (r : Fin 256) (o : Fin 2048) :
    k0_pay4 (F := Ideal) x hm qs (k0_pay3 sc d) (ix3 bi r o) = refProd x hm qs sc d bi r o := by
  unfold k0_pay4
  refine (Ideal.matmul_apply₁_of dot_S6x256x7168_S2048x7168_S6x256x2048_2_1_01_0_n_n (a := 2) rfl (K := 7168) rfl _ _ _ _
    (fun k => ix3 bi r k) (fun k => ix2 o k) ?_ ?_).trans ?_
  · intro k; funext a; fin_cases a <;> rfl
  · intro k; funext a; fin_cases a <;> rfl
  unfold refProd
  refine congrArg₂ (· + ·) rfl (Finset.sum_congr rfl fun k _ => congrArg (x (ix3 bi r k) * ·) ?_)
  have hk := k.isLt
  rw [shapeCast_apply _ _ _ (ix4 o (⟨k.val / 16 / 16, by omega⟩ : Fin 28) (⟨k.val / 16 % 16, by omega⟩ : Fin 16) (⟨k.val % 16, by omega⟩ : Fin 16)) (by
    rw [Shape.rowMajor_val_two, Shape.rowMajor_val_four]
    show ((o.val * 28 + k.val / 16 / 16) * 16 + k.val / 16 % 16) * 16 + k.val % 16 = o.val * 7168 + k.val; omega)]
  rw [mulf_apply]
  unfold refWeight weight
  congr 1
  · rw [shapeCast_apply _ _ _ (ix5 o (⟨k.val / 16 / 16, by omega⟩ : Fin 28) (⟨k.val / 16 % 16 / 8, by omega⟩ : Fin 2)
      (⟨k.val / 16 % 8 / 2, by omega⟩ : Fin 4) (⟨16 * (k.val / 16 % 2) + k.val % 16, by omega⟩ : Fin 32)) (by
      rw [Shape.rowMajor_val_five, Shape.rowMajor_val_four]
      show (((o.val * 28 + k.val / 16 / 16) * 2 + k.val / 16 % 16 / 8) * 4 + k.val / 16 % 8 / 2) * 32 + (16 * (k.val / 16 % 2) + k.val % 16)
        = ((o.val * 28 + k.val / 16 / 16) * 16 + k.val / 16 % 16) * 16 + k.val % 16; omega)]
    rw [code_apply]
  · rw [broadcastTo_apply _ _ _ (ix4 o (⟨k.val / 16 / 16, by omega⟩ : Fin 28) (⟨k.val / 16 % 16, by omega⟩ : Fin 16) (⟨0, Nat.one_pos⟩ : Fin 1)) (by
      intro a; fin_cases a <;> rfl)]
    rw [shapeCast_apply _ _ _ (ix3 o (⟨k.val / 16 / 16, by omega⟩ : Fin 28) (⟨k.val / 16 % 16, by omega⟩ : Fin 16)) (by
      rw [Shape.rowMajor_val_three, Shape.rowMajor_val_four]
      show (o.val * 28 + k.val / 16 / 16) * 16 + k.val / 16 % 16 = ((o.val * 28 + k.val / 16 / 16) * 16 + k.val / 16 % 16) * 1 + 0; omega)]
    rw [gain_apply]

/-- The scale of run `n` of a row. -/
def refScale (bi : Fin 6) (r : Fin 256) (n : Fin 8) : EReal :=
  scaleOf (amax fun l => refProd x hm qs sc d bi r ⟨256 * n.val + l.val, by omega⟩)

theorem run_apply (bi : Fin 6) (r : Fin 256) (n : Fin 8) (l : Fin 256) :
    k0_pay5 (F := Ideal) x hm qs (k0_pay3 sc d) (ix4 bi r n l) = refProd x hm qs sc d bi r ⟨256 * n.val + l.val, by omega⟩ := by
  unfold k0_pay5
  rw [shapeCast_apply _ _ _ (ix3 bi r (⟨256 * n.val + l.val, by omega⟩ : Fin 2048)) (by
    rw [Shape.rowMajor_val_three, Shape.rowMajor_val_four]
    show (bi.val * 256 + r.val) * 2048 + (256 * n.val + l.val) = ((bi.val * 256 + r.val) * 8 + n.val) * 256 + l.val; omega)]
  exact prod_apply x hm qs sc d bi r _

theorem scale_apply (bi : Fin 6) (r : Fin 256) (n : Fin 8) :
    k0_pay6 (F := Ideal) x hm qs (k0_pay3 sc d) (ix3 bi r n) = refScale x hm qs sc d bi r n := by
  have hmax : multiReduction .maximumf [3] S6x256x8 (absf (k0_pay5 (F := Ideal) x hm qs (k0_pay3 sc d))) 0xFF800000#32
      reduces_S6x256x8x256_S6x256x8 (.inl rfl) rfl (ix3 bi r n)
      = amax fun l => refProd x hm qs sc d bi r ⟨256 * n.val + l.val, by omega⟩ := by
    refine (multiReduction_maximumf_eq_fold _ _ _ _ _ _).trans ?_
    refine (fold_fiber (fun i => reduces_S6x256x8x256_S6x256x8.drop i) (ix3 bi r n) (fun l => ix4 bi r n l) ?_ ?_
      (k0_pay5 (F := Ideal) x hm qs (k0_pay3 sc d))).trans ?_
    · intro l l' h; exact congrFun h 3
    · intro i
      have h0 : ((reduces_S6x256x8x256_S6x256x8.drop i) 0 : ℕ) = i 0 := reduces_S6x256x8x256_S6x256x8.drop_apply_val_of_eq i 0 0 (by decide)
      have h1 : ((reduces_S6x256x8x256_S6x256x8.drop i) 1 : ℕ) = i 1 := reduces_S6x256x8x256_S6x256x8.drop_apply_val_of_eq i 1 1 (by decide)
      have h2 : ((reduces_S6x256x8x256_S6x256x8.drop i) 2 : ℕ) = i 2 := reduces_S6x256x8x256_S6x256x8.drop_apply_val_of_eq i 2 2 (by decide)
      constructor
      · intro h
        refine ⟨i 3, ?_⟩
        have e0 : i 0 = bi := Fin.ext (by rw [← h0, h])
        have e1 : i 1 = r := Fin.ext (by rw [← h1, h])
        have e2 : i 2 = n := Fin.ext (by rw [← h2, h])
        rw [← e0, ← e1, ← e2]
        exact (ValueIdx.eq_ix4 i).symm
      · rintro ⟨l, rfl⟩
        exact (ValueIdx.eq_ix3 _).trans (by
          rw [show (reduces_S6x256x8x256_S6x256x8.drop (ix4 bi r n l)) 0 = bi from Fin.ext h0,
            show (reduces_S6x256x8x256_S6x256x8.drop (ix4 bi r n l)) 1 = r from Fin.ext h1,
            show (reduces_S6x256x8x256_S6x256x8.drop (ix4 bi r n l)) 2 = n from Fin.ext h2]
          rfl)
    · congr 1; funext l; exact run_apply x hm qs sc d bi r n l
  unfold k0_pay6 refScale
  rw [select_apply, cmpf_apply, divf_apply, hmax]
  rfl

/-- Rounding, clipping and narrowing act on each element. -/
theorem codes_apply {s : Shape} (y b : FVec Ideal s .f32) (i : s.Idx) :
    fptosi 8 (minimumf (broadcast s (Scalar.ofBits (F := Ideal) .f32 0x42FE0000#32))
      (maximumf (broadcast s (Scalar.ofBits (F := Ideal) .f32 0xC2FE0000#32)) (roundeven (divf y b)))) i = codeOf (y i) (b i) := rfl

/-- The gains are computed from the whole argument arrays. -/
theorem gains_eq : k0_pay8 (F := Ideal) x hm qs sc d = k0_pay3 sc d := by
  unfold k0_pay8
  rw [View.ld_unit_zero (S := S2048x28x12) hz3 _ sc, View.ld_unit_zero (S := S2048x28) hz4 _ d]

theorem ref_y (bi : Fin 6) (r : Fin 256) (o : Fin 2048) :
    G5 (F := Ideal) x hm qs sc d (ix3 bi r o) = refProd x hm qs sc d bi r o := by
  rw [G5, gains_eq]
  exact prod_apply x hm qs sc d bi r o

theorem ref_scale (bi : Fin 6) (r : Fin 256) (n : Fin 8) :
    G7 (F := Ideal) x hm qs sc d (ix3 bi r n) = refScale x hm qs sc d bi r n := by
  rw [G7, gains_eq]
  exact scale_apply x hm qs sc d bi r n

theorem ref_code (bi : Fin 6) (r : Fin 256) (o : Fin 2048) :
    G6 (F := Ideal) x hm qs sc d (ix3 bi r o)
      = codeOf (refProd x hm qs sc d bi r o) (refScale x hm qs sc d bi r ⟨o.val / 256, by omega⟩) := by
  rw [G6, gains_eq]
  unfold k0_pay2 k0_pay7
  rw [shapeCast_apply _ _ _ (ix4 bi r (⟨o.val / 256, by omega⟩ : Fin 8) (⟨o.val % 256, by omega⟩ : Fin 256)) (by
    rw [Shape.rowMajor_val_three, Shape.rowMajor_val_four]
    show ((bi.val * 256 + r.val) * 8 + o.val / 256) * 256 + o.val % 256 = (bi.val * 256 + r.val) * 2048 + o.val; omega)]
  refine (codes_apply _ _ _).trans ?_
  rw [run_apply]
  rw [broadcastTo_apply _ _ _ (ix4 bi r (⟨o.val / 256, by omega⟩ : Fin 8) (⟨0, Nat.one_pos⟩ : Fin 1)) (by
    intro a; fin_cases a <;> rfl)]
  rw [shapeCast_apply _ _ _ (ix3 bi r (⟨o.val / 256, by omega⟩ : Fin 8)) (by
    rw [Shape.rowMajor_val_three, Shape.rowMajor_val_four]
    show (bi.val * 256 + r.val) * 8 + o.val / 256 = ((bi.val * 256 + r.val) * 8 + o.val / 256) * 1 + 0; omega)]
  rw [scale_apply]
  congr 2
  exact Fin.ext (by show 256 * (o.val / 256) + o.val % 256 = o.val; omega)

end Read

end Cert.ReferenceIdeal.Proof
-- ==== Proof.Leg.lean ====
module

public import proofs.«01_k».proof.Proof.KernelRead
public import proofs.«01_k».proof.Proof.RefRead
public import Idealize.ShloMosaic.Lib.Pipeline.Value

@[expose] public section

set_option maxRecDepth 16384

noncomputable section

namespace Cert.KernelIdeal.Proof

open Idealize.ShloMosaic hiding ix1 ix2 ix3 ix4 ix5 eq_ix1 eq_ix2 eq_ix3 eq_ix4 eq_ix5
open Idealize.ShloMosaic.TcCoe Idealize.ShloMosaic.ValueIdx Idealize.SL.Sem
open Idealize.ShloMosaic.Pipeline (Dat)
open Cert.KernelIdeal.Gen Cert.Q3K Cert.ReferenceIdeal.Proof

variable (m : (ℓ : Loc nD τ sig) → Buf (Elt Ideal) ℓ) (ρ : Dev nD → PrngReg) (c : Dev nD)

/-! ## The blocks a grid point reads -/

/-- The arguments as launched. -/
abbrev argX : Vec Ideal S6x256x7168 .bf16 := m ((c : Thread nD τ).loc main_arg0)
abbrev argHm : Vec Ideal S2048x28x32 .i8 := m ((c : Thread nD τ).loc main_arg1)
abbrev argQs : Vec Ideal S2048x28x64 .i8 := m ((c : Thread nD τ).loc main_arg2)
abbrev argSc : Vec Ideal S2048x28x12 .i8 := m ((c : Thread nD τ).loc main_arg3)
abbrev argD : Vec Ideal S2048x28 .i16 := m ((c : Thread nD τ).loc main_arg4)

theorem V_v0 : V m c main_v0 = transpose S28x32x2048 [1, 2, 0] (argHm m c) transposes_S2048x28x32_S28x32x2048_1_2_0 := by
  show StableHlo.after (List.flatten [hostOps0]) (fun b => m (c, b)) (Proc.devRef .tc main_v0) = _
  simp only [hostOps0, List.flatten_cons, List.flatten_nil, List.append_nil]
  after_results
theorem V_v1 : V m c main_v1 = transpose S28x64x2048 [1, 2, 0] (argQs m c) transposes_S2048x28x64_S28x64x2048_1_2_0 := by
  show StableHlo.after (List.flatten [hostOps0]) (fun b => m (c, b)) (Proc.devRef .tc main_v1) = _
  simp only [hostOps0, List.flatten_cons, List.flatten_nil, List.append_nil]
  after_results
theorem V_v2 : V m c main_v2 = transpose S12x28x2048 [2, 1, 0] (argSc m c) transposes_S2048x28x12_S12x28x2048_2_1_0 := by
  show StableHlo.after (List.flatten [hostOps0]) (fun b => m (c, b)) (Proc.devRef .tc main_v2) = _
  simp only [hostOps0, List.flatten_cons, List.flatten_nil, List.append_nil]
  after_results
theorem V_v3 : V m c main_v3 = transpose S28x2048 [1, 0] (argD m c) transposes_S2048x28_S28x2048_1_0 := by
  show StableHlo.after (List.flatten [hostOps0]) (fun b => m (c, b)) (Proc.devRef .tc main_v3) = _
  simp only [hostOps0, List.flatten_cons, List.flatten_nil, List.append_nil]
  after_results

/-- The block indices of the windows at a point: the point's number on the column axis, zero elsewhere. -/
theorem index0 : ∀ t : Fin cfg0.N, win0_0.index t (0 : Fin 3) = 0 ∧ win0_0.index t (1 : Fin 3) = 0 ∧ win0_0.index t (2 : Fin 3) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = t.val :=
  (by decide +kernel : ∀ t : Fin grid0.N, _)
theorem index2 : ∀ t : Fin cfg0.N, win0_2.index t (0 : Fin 3) = 0 ∧ win0_2.index t (1 : Fin 3) = 0 ∧ win0_2.index t (2 : Fin 3) = t.val :=
  (by decide +kernel : ∀ t : Fin grid0.N, _)
theorem index3 : ∀ t : Fin cfg0.N, win0_3.index t (0 : Fin 3) = 0 ∧ win0_3.index t (1 : Fin 3) = 0 ∧ win0_3.index t (2 : Fin 3) = t.val :=
  (by decide +kernel : ∀ t : Fin grid0.N, _)
theorem index4 : ∀ t : Fin cfg0.N, win0_4.index t (0 : Fin 2) = 0 ∧ win0_4.index t (1 : Fin 2) = t.val :=
  (by decide +kernel : ∀ t : Fin grid0.N, _)
theorem index5 : ∀ t : Fin cfg0.N, win0_5.index t (0 : Fin 3) = 0 ∧ win0_5.index t (1 : Fin 3) = 0 ∧ win0_5.index t (2 : Fin 3) = t.val :=
  (by decide +kernel : ∀ t : Fin grid0.N, _)
theorem index6 : ∀ t : Fin cfg0.N, win0_6.index t (0 : Fin 3) = 0 ∧ win0_6.index t (1 : Fin 3) = 0 ∧ win0_6.index t (2 : Fin 3) = t.val :=
  (by decide +kernel : ∀ t : Fin grid0.N, _)
theorem index7 : ∀ t : Fin cfg0.N, win0_7.index t (0 : Fin 4) = 0 ∧ win0_7.index t (1 : Fin 4) = t.val ∧ win0_7.index t (2 : Fin 4) = 0
    ∧ win0_7.index t (3 : Fin 4) = 0 :=
  (by decide +kernel : ∀ t : Fin grid0.N, _)

/-- Column `l` of point `t`'s block, in the whole array. -/
abbrev col (t : Fin cfg0.N) (l : Fin 256) : Fin 2048 :=
  ⟨256 * t.val + l.val, by have := t.isLt; have h : cfg0.N = 8 := rfl; omega⟩

theorem iblk0_apply (t : Fin cfg0.N) (bi : Fin 6) (r : Fin 256) (k : Fin 7168) :
    iblk m c 0 t (ix3 bi r k) = argX m c (ix3 bi r k) := by
  show V m c main_arg0 (((cfg0.win 0).blk t).view.emb (ix3 bi r k)) = _
  rw [V_main_arg0]
  refine congrArg (argX m c) ?_
  obtain ⟨e0, e1, e2⟩ := index0 t
  funext a; apply Fin.ext
  match a with
  | ⟨0, _⟩ => show win0_0.index t (0 : Fin 3) * 6 + 1 * bi.val = bi.val; omega
  | ⟨1, _⟩ => show win0_0.index t (1 : Fin 3) * 256 + 1 * r.val = r.val; omega
  | ⟨2, _⟩ => show win0_0.index t (2 : Fin 3) * 7168 + 1 * k.val = k.val; omega

theorem iblk1_apply (t : Fin cfg0.N) (b : Fin 28) (i : Fin 32) (l : Fin 256) :
    iblk m c 1 t (ix3 b i l) = argHm m c (ix3 (col t l) b i) := by
  show V m c main_v0 (((cfg0.win 1).blk t).view.emb (ix3 b i l)) = _
  rw [V_v0]
  obtain ⟨e0, e1, e2⟩ := index1 t
  refine transpose_apply _ _ _ _ _ ?_
  intro a
  match a with
  | ⟨0, _⟩ => show b.val = win0_1.index t (0 : Fin 3) * 28 + 1 * b.val; omega
  | ⟨1, _⟩ => show i.val = win0_1.index t (1 : Fin 3) * 32 + 1 * i.val; omega
  | ⟨2, _⟩ => show 256 * t.val + l.val = win0_1.index t (2 : Fin 3) * 256 + 1 * l.val; omega

theorem iblk2_apply (t : Fin cfg0.N) (b : Fin 28) (i : Fin 64) (l : Fin 256) :
    iblk m c 2 t (ix3 b i l) = argQs m c (ix3 (col t l) b i) := by
  show V m c main_v1 (((cfg0.win 2).blk t).view.emb (ix3 b i l)) = _
  rw [V_v1]
  obtain ⟨e0, e1, e2⟩ := index2 t
  refine transpose_apply _ _ _ _ _ ?_
  intro a
  match a with
  | ⟨0, _⟩ => show b.val = win0_2.index t (0 : Fin 3) * 28 + 1 * b.val; omega
  | ⟨1, _⟩ => show i.val = win0_2.index t (1 : Fin 3) * 64 + 1 * i.val; omega
  | ⟨2, _⟩ => show 256 * t.val + l.val = win0_2.index t (2 : Fin 3) * 256 + 1 * l.val; omega

theorem iblk3_apply (t : Fin cfg0.N) (i : Fin 12) (b : Fin 28) (l : Fin 256) :
    iblk m c 3 t (ix3 i b l) = argSc m c (ix3 (col t l) b i) := by
  show V m c main_v2 (((cfg0.win 3).blk t).view.emb (ix3 i b l)) = _
  rw [V_v2]
  obtain ⟨e0, e1, e2⟩ := index3 t
  refine transpose_apply _ _ _ _ _ ?_
  intro a
  match a with
  | ⟨0, _⟩ => show i.val = win0_3.index t (0 : Fin 3) * 12 + 1 * i.val; omega
  | ⟨1, _⟩ => show b.val = win0_3.index t (1 : Fin 3) * 28 + 1 * b.val; omega
  | ⟨2, _⟩ => show 256 * t.val + l.val = win0_3.index t (2 : Fin 3) * 256 + 1 * l.val; omega

theorem iblk4_apply (t : Fin cfg0.N) (b : Fin 28) (l : Fin 256) :
    iblk m c 4 t (ix2 b l) = argD m c (ix2 (col t l) b) := by
  show V m c main_v3 (((cfg0.win 4).blk t).view.emb (ix2 b l)) = _
  rw [V_v3]
  obtain ⟨e0, e1⟩ := index4 t
  refine transpose_apply _ _ _ _ _ ?_
  intro a
  match a with
  | ⟨0, _⟩ => show b.val = win0_4.index t (0 : Fin 2) * 28 + 1 * b.val; omega
  | ⟨1, _⟩ => show 256 * t.val + l.val = win0_4.index t (1 : Fin 2) * 256 + 1 * l.val; omega

/-! ## What a grid point computes -/

/-- The product of batch entry `bi` at point `t`. -/
def pointProd (t : Fin cfg0.N) (bi : Fin 6) : FVec Ideal S256x256 .f32 :=
  yBlock (F := Ideal) (ms0_1 t) (hs0_1 t) (ms0_2 t) (hs0_2 t) (ms0_3 t) (hs0_3 t) (ms0_4 t) (hs0_4 t) scM0_0
    (iblk m c 1 t) (iblk m c 2 t) (iblk m c 3 t) (iblk m c 4 t) (ms0_0 t) (hs0_0 t) scM0_1 (iblk m c 0 t) bi

/-- The half-precision scales have exponents below 31. -/
def FiniteScales (d : Vec Ideal S2048x28 .i16) : Prop :=
  ∀ (o : Fin 2048) (b : Fin 28), IntOp.andi ((d (ix2 o b) : BitVec 16).setWidth 32) 31744#32 ≠ 31744#32

/-- At a point, a batch entry's product is the reference's product on the point's columns. -/
theorem pointProd_apply (hd : FiniteScales (argD m c)) (t : Fin cfg0.N) (bi : Fin 6) (r l : Fin 256) :
    pointProd m c t bi (ix2 r l)
      = refProd (argX m c) (argHm m c) (argQs m c) (argSc m c) (argD m c) bi r (col t l) := by
  unfold pointProd refProd
  refine (yBlock_apply _ _ _ _ _ _ _ _ _ _ _ _ _ _ _ _ _ bi r l).trans ?_
  refine congrArg _ (Finset.sum_congr rfl fun k _ => ?_)
  refine congrArg₂ _ (iblk0_apply m c t bi r k) ?_
  refine (weights_apply _ _ _ _ _ _ _ _ _ _ _ _ _ _ k l).trans ?_
  unfold refWeight
  rw [iblk1_apply, iblk2_apply, iblk3_apply, iblk3_apply, iblk4_apply, halfDecoded_eq _ (hd _ _)]

/-- At a point, the largest magnitude in a row of a batch entry's product gives the reference's scale. -/
theorem pointScale_apply (hd : FiniteScales (argD m c)) (t : Fin cfg0.N) (bi : Fin 6) (r : Fin 256) :
    scaleOf (amax fun l => pointProd m c t bi (ix2 r l))
      = refScale (argX m c) (argHm m c) (argQs m c) (argSc m c) (argD m c) bi r (⟨t.val, t.isLt⟩ : Fin 8) := by
  unfold refScale
  refine congrArg scaleOf (congrArg amax (funext fun l => ?_))
  exact pointProd_apply m c hd t bi r l

/-- The buffers the body leaves at a point, read at an element. -/
theorem outs5_apply (t : Fin cfg0.N) (bi : Fin 6) (r l : Fin 256) :
    (outsAt0 m c t).1 (ix3 bi r l) = pointProd m c t bi (ix2 r l) := by
  unfold outsAt0 out0_A_5
  dsimp only
  rw [run_pieces5]
  refine Eq.trans ?_ (yTile_apply (pointProd m c t bi) (⟨0, Nat.one_pos⟩ : Fin 1) r l)
  refine View.read_tilePieces VO0_5 _ _ _ _ _ 6 _ _ bi bi.isLt _ ?_ 0 ?_
  · intro a; fin_cases a
    · show bi.val = bi.val + 0; omega
    · show r.val = 0 + r.val; omega
    · show l.val = 0 + l.val; omega
  · intro i' hi'
    have : i'.val ≠ bi.val := fun h => hi' (Fin.ext h)
    show bi.val < i'.val ∨ i'.val + 1 ≤ bi.val
    omega

theorem outs6_apply (t : Fin cfg0.N) (bi : Fin 6) (r l : Fin 256) :
    (outsAt0 m c t).2.1 (ix3 bi r l)
      = codeOf (pointProd m c t bi (ix2 r l)) (scaleOf (amax fun l' => pointProd m c t bi (ix2 r l'))) := by
  unfold outsAt0 out0_A_6
  dsimp only
  rw [run_pieces6]
  refine Eq.trans ?_ (codesTile_apply (pointProd m c t bi) (⟨0, Nat.one_pos⟩ : Fin 1) r l)
  refine View.read_tilePieces VO0_6 _ _ _ _ _ 6 _ _ bi bi.isLt _ ?_ 0 ?_
  · intro a; fin_cases a
    · show bi.val = bi.val + 0; omega
    · show r.val = 0 + r.val; omega
    · show l.val = 0 + l.val; omega
  · intro i' hi'
    have : i'.val ≠ bi.val := fun h => hi' (Fin.ext h)
    show bi.val < i'.val ∨ i'.val + 1 ≤ bi.val
    omega

theorem outs7_apply (t : Fin cfg0.N) (bi : Fin 6) (z z' : Fin 1) (r : Fin 256) :
    (outsAt0 m c t).2.2 (ix4 bi z z' r) = scaleOf (amax fun l => pointProd m c t bi (ix2 r l)) := by
  unfold outsAt0 out0_A_7
  dsimp only
  rw [run_pieces7]
  refine Eq.trans ?_ (scaleTile_apply (pointProd m c t bi) (⟨0, Nat.one_pos⟩ : Fin 1) z z' r)
  refine View.read_tilePieces VO0_7 _ _ _ _ _ 6 _ _ bi bi.isLt _ ?_ 0 ?_
  · intro a; fin_cases a
    · show bi.val = bi.val + 0; omega
    · show z.val = 0 + z.val; omega
    · show z'.val = 0 + z'.val; omega
    · show r.val = 0 + r.val; omega
  · intro i' hi'
    have : i'.val ≠ bi.val := fun h => hi' (Fin.ext h)
    show bi.val < i'.val ∨ i'.val + 1 ≤ bi.val
    omega

/-! ## The arrays after the run -/

theorem emb5 (t : Fin cfg0.N) (bi : Fin 6) (r l : Fin 256) :
    ((cfg0.win 5).blk t).view.emb (ix3 bi r l) = ix3 bi r (col t l) := by
  obtain ⟨e0, e1, e2⟩ := index5 t
  funext a; apply Fin.ext
  match a with
  | ⟨0, _⟩ => show win0_5.index t (0 : Fin 3) * 6 + 1 * bi.val = bi.val; omega
  | ⟨1, _⟩ => show win0_5.index t (1 : Fin 3) * 256 + 1 * r.val = r.val; omega
  | ⟨2, _⟩ => show win0_5.index t (2 : Fin 3) * 256 + 1 * l.val = 256 * t.val + l.val; omega

theorem emb6 (t : Fin cfg0.N) (bi : Fin 6) (r l : Fin 256) :
    ((cfg0.win 6).blk t).view.emb (ix3 bi r l) = ix3 bi r (col t l) := by
  obtain ⟨e0, e1, e2⟩ := index6 t
  funext a; apply Fin.ext
  match a with
  | ⟨0, _⟩ => show win0_6.index t (0 : Fin 3) * 6 + 1 * bi.val = bi.val; omega
  | ⟨1, _⟩ => show win0_6.index t (1 : Fin 3) * 256 + 1 * r.val = r.val; omega
  | ⟨2, _⟩ => show win0_6.index t (2 : Fin 3) * 256 + 1 * l.val = 256 * t.val + l.val; omega

theorem emb7 (t : Fin cfg0.N) (bi : Fin 6) (z z' : Fin 1) (r : Fin 256) :
    ((cfg0.win 7).blk t).view.emb (ix4 bi z z' r) = ix4 bi (⟨t.val, t.isLt⟩ : Fin 8) (⟨0, Nat.one_pos⟩ : Fin 1) r := by
  obtain ⟨e0, e1, e2, e3⟩ := index7 t
  have := z.isLt; have := z'.isLt
  funext a; apply Fin.ext
  match a with
  | ⟨0, _⟩ => show win0_7.index t (0 : Fin 4) * 6 + 1 * bi.val = bi.val; omega
  | ⟨1, _⟩ => show win0_7.index t (1 : Fin 4) * 1 + 1 * z.val = t.val; omega
  | ⟨2, _⟩ => show win0_7.index t (2 : Fin 4) * 1 + 1 * z'.val = 0; omega
  | ⟨3, _⟩ => show win0_7.index t (3 : Fin 4) * 256 + 1 * r.val = r.val; omega

/-- The point whose block holds column `o`. -/
abbrev pointOf (o : Fin 2048) : Fin cfg0.N := ⟨o.val / 256, by have h : cfg0.N = 8 := rfl; omega⟩

theorem col_pointOf (o : Fin 2048) : col (pointOf o) ⟨o.val % 256, by omega⟩ = o :=
  Fin.ext (by show 256 * (o.val / 256) + o.val % 256 = o.val; omega)

theorem covered5 (i : S6x256x2048.Idx) : ∃ t : Fin cfg0.N, (cfg0.win 5).flush t = true ∧ i ∈ ((cfg0.win 5).blk t).view.set := by
  obtain ⟨bi, r, o, rfl⟩ : ∃ (bi : Fin 6) (r : Fin 256) (o : Fin 2048), i = ix3 bi r o := ⟨i 0, i 1, i 2, eq_ix3 i⟩
  refine ⟨pointOf o, flush0_5 _, ?_⟩
  have h := ((cfg0.win 5).blk (pointOf o)).view.emb_mem_set (ix3 bi r (⟨o.val % 256, by omega⟩ : Fin 256))
  have e := (emb5 (pointOf o) bi r ⟨o.val % 256, by omega⟩).trans (congrArg (ix3 bi r) (col_pointOf o))
  exact e ▸ h

theorem covered6 (i : S6x256x2048.Idx) : ∃ t : Fin cfg0.N, (cfg0.win 6).flush t = true ∧ i ∈ ((cfg0.win 6).blk t).view.set := by
  obtain ⟨bi, r, o, rfl⟩ : ∃ (bi : Fin 6) (r : Fin 256) (o : Fin 2048), i = ix3 bi r o := ⟨i 0, i 1, i 2, eq_ix3 i⟩
  refine ⟨pointOf o, flush0_6 _, ?_⟩
  have h := ((cfg0.win 6).blk (pointOf o)).view.emb_mem_set (ix3 bi r (⟨o.val % 256, by omega⟩ : Fin 256))
  have e := (emb6 (pointOf o) bi r ⟨o.val % 256, by omega⟩).trans (congrArg (ix3 bi r) (col_pointOf o))
  exact e ▸ h

theorem covered7 (i : S6x8x1x256.Idx) : ∃ t : Fin cfg0.N, (cfg0.win 7).flush t = true ∧ i ∈ ((cfg0.win 7).blk t).view.set := by
  obtain ⟨bi, n, z, r, rfl⟩ : ∃ (bi : Fin 6) (n : Fin 8) (z : Fin 1) (r : Fin 256), i = ix4 bi n z r := ⟨i 0, i 1, i 2, i 3, eq_ix4 i⟩
  obtain rfl : z = ⟨0, Nat.one_pos⟩ := Subsingleton.elim _ _
  refine ⟨⟨n.val, n.isLt⟩, flush0_7 _, ?_⟩
  have h := ((cfg0.win 7).blk ⟨n.val, n.isLt⟩).view.emb_mem_set (ix4 bi (⟨0, Nat.one_pos⟩ : Fin 1) (⟨0, Nat.one_pos⟩ : Fin 1) r)
  exact emb7 ⟨n.val, n.isLt⟩ bi ⟨0, Nat.one_pos⟩ ⟨0, Nat.one_pos⟩ r ▸ h

/-- The product array is the reference's. -/
theorem final5 (hd : FiniteScales (argD m c)) : (dats m 0 c).arrAt 5 cfg0.N
    = Cert.ReferenceIdeal.Value.G5 (F := Ideal) (argX m c) (argHm m c) (argQs m c) (argSc m c) (argD m c) := by
  refine (dats m 0 c).arrAt_eq_of_cover 5 _ (fun t _ => ?_) covered5
  show (cfg0.win 5).cut (grid0.coords t) ((dats m 0 c).after 5 t) = _
  rw [after0_5]
  funext j
  show (outsAt0 m c t).1 j = Cert.ReferenceIdeal.Value.G5 (F := Ideal) (argX m c) (argHm m c) (argQs m c) (argSc m c) (argD m c)
    (((cfg0.win 5).blk t).view.emb j)
  obtain ⟨bi, r, l, rfl⟩ : ∃ (bi : Fin 6) (r l : Fin 256), j = ix3 bi r l := ⟨j 0, j 1, j 2, eq_ix3 j⟩
  rw [emb5, outs5_apply, ref_y]
  exact pointProd_apply m c hd t bi r l

/-- The array of codes is the reference's. -/
theorem final6 (hd : FiniteScales (argD m c)) : (dats m 0 c).arrAt 6 cfg0.N
    = Cert.ReferenceIdeal.Value.G6 (F := Ideal) (argX m c) (argHm m c) (argQs m c) (argSc m c) (argD m c) := by
  refine (dats m 0 c).arrAt_eq_of_cover 6 _ (fun t _ => ?_) covered6
  show (cfg0.win 6).cut (grid0.coords t) ((dats m 0 c).after 6 t) = _
  rw [after0_6]
  funext j
  show (outsAt0 m c t).2.1 j = Cert.ReferenceIdeal.Value.G6 (F := Ideal) (argX m c) (argHm m c) (argQs m c) (argSc m c) (argD m c)
    (((cfg0.win 6).blk t).view.emb j)
  obtain ⟨bi, r, l, rfl⟩ : ∃ (bi : Fin 6) (r l : Fin 256), j = ix3 bi r l := ⟨j 0, j 1, j 2, eq_ix3 j⟩
  rw [emb6, outs6_apply, ref_code]
  refine congrArg₂ codeOf (pointProd_apply m c hd t bi r l) ((pointScale_apply m c hd t bi r).trans ?_)
  refine congrArg _ (Fin.ext ?_)
  show t.val = (256 * t.val + l.val) / 256
  omega

/-- The array of scales, row by row of each block. -/
def scaleRows : Vec Ideal S6x8x1x256 .f32 := fun i =>
  refScale (argX m c) (argHm m c) (argQs m c) (argSc m c) (argD m c) (i 0) (i 3) (i 1)

theorem final7 (hd : FiniteScales (argD m c)) : (dats m 0 c).arrAt 7 cfg0.N = scaleRows m c := by
  refine (dats m 0 c).arrAt_eq_of_cover 7 _ (fun t _ => ?_) covered7
  show (cfg0.win 7).cut (grid0.coords t) ((dats m 0 c).after 7 t) = _
  rw [after0_7]
  funext j
  show (outsAt0 m c t).2.2 j = scaleRows m c (((cfg0.win 7).blk t).view.emb j)
  obtain ⟨bi, z, z', r, rfl⟩ : ∃ (bi : Fin 6) (z z' : Fin 1) (r : Fin 256), j = ix4 bi z z' r := ⟨j 0, j 1, j 2, j 3, eq_ix4 j⟩
  rw [emb7, outs7_apply]
  exact pointScale_apply m c hd t bi r

/-- The host operations after the kernel put the scales in the reference's order. -/
theorem tail_v6 (hd : FiniteScales (argD m c)) : Pipeline.afterTail₀ cfgs (dats m) 0 (V0 m) [hostOps1] c main_v6
    = Cert.ReferenceIdeal.Value.G7 (F := Ideal) (argX m c) (argHm m c) (argQs m c) (argSc m c) (argD m c) := by
  have e : Pipeline.afterTail₀ cfgs (dats m) 0 (V0 m) [hostOps1] c main_v6
      = transpose S6x256x8 [0, 2, 1] (shapeCast S6x8x256 (scaleRows m c) shapeCasts_S6x8x1x256_S6x8x256) transposes_S6x8x256_S6x256x8_0_2_1 := by
    have h7 : Pipeline.withArrays spec0 c (V0 m c) (fun w => (dats m 0 c).arrAt w cfg0.N) (Proc.devRef .tc main_v4_2) = scaleRows m c :=
      (Pipeline.withArrays_arr spec0 (by decide) c (V0 m c) (fun w => (dats m 0 c).arrAt w cfg0.N) 7).trans (final7 m c hd)
    rw [← h7]
    unfold Pipeline.afterTail₀
    simp only [hostOps1, List.flatten_cons, List.flatten_nil, List.append_nil]
    after_results
    rfl
  rw [e]
  funext i
  obtain ⟨bi, r, n, rfl⟩ : ∃ (bi : Fin 6) (r : Fin 256) (n : Fin 8), i = ix3 bi r n := ⟨i 0, i 1, i 2, eq_ix3 i⟩
  rw [transpose_apply _ _ _ _ (ix3 bi n r) (by intro b; fin_cases b <;> rfl),
    shapeCast_apply _ _ _ (ix4 bi n (⟨0, Nat.one_pos⟩ : Fin 1) r) (by
      rw [Shape.rowMajor_val_three, Shape.rowMajor_val_four]
      show ((bi.val * 8 + n.val) * 1 + 0) * 256 + r.val = (bi.val * 8 + n.val) * 256 + r.val; omega),
    ref_scale]
  rfl

/-- The kernel's run: its three results are the reference's, and the arguments are unchanged. -/
theorem run (hd : ∀ c : Dev nD, FiniteScales (argD m c)) :
    θ_run defs (onTc (τ := τ) (main (F := Ideal))) ⟨m, fun _ => 0, ρ⟩ fun r => ∀ c : Dev nD,
      r.2.mem ((c : Thread nD τ).loc main_v4_0) = Cert.ReferenceIdeal.Value.G5 (F := Ideal) (argX m c) (argHm m c) (argQs m c) (argSc m c) (argD m c)
      ∧ r.2.mem ((c : Thread nD τ).loc main_v4_1) = Cert.ReferenceIdeal.Value.G6 (F := Ideal) (argX m c) (argHm m c) (argQs m c) (argSc m c) (argD m c)
      ∧ r.2.mem ((c : Thread nD τ).loc main_v6) = Cert.ReferenceIdeal.Value.G7 (F := Ideal) (argX m c) (argHm m c) (argQs m c) (argSc m c) (argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final5 m c (hd c)),
      ((h c).1 6).trans (final6 m c (hd c)),
      ((h c).2 main_v6 (Pipeline.mem_restRefs_of main_v6 (by decide) (by decide))).trans (tail_v6 m c (hd c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Proof
-- ==== Proof.lean ====
/- The kernel's three results are the reference's, read over the extended reals, for half-precision scales that are
   finite. Both programs, and the kernel as printed, terminate without a fault and leave their arguments as they were.

   `Proof/Words.lean` reads the packed integer words, `Proof/Spec.lean` states the result both programs compute,
   `Proof/Pieces.lean` names what the kernel's body stores, `Proof/KernelRead.lean` and `Proof/RefRead.lean` read the
   kernel's stores and the reference's results at an index, and `Proof/Leg.lean` puts the kernel's blocks together. -/
module

public import proofs.«01_k».proof.Defs
public import proofs.«01_k».proof.Proof.Gen.Kernel.Frame
public import proofs.«01_k».proof.Proof.Gen.KernelIdeal.Frame
public import proofs.«01_k».proof.Proof.Gen.ReferenceIdeal.Value
public import proofs.«01_k».proof.Proof.Gen.Pre_finite_d
public import proofs.«01_k».proof.Proof.Leg
public import Idealize.ShloMosaic.Lib.Bf16Pair
public import Idealize.ShloMosaic.Lib.Bf16PairInverse
public import Idealize.ShloMosaic.Lib.ReduceAll
public import Idealize.ShloMosaic.Lib.WordCmp

@[expose] public section

namespace Cert.Proof

open Idealize.ShloMosaic Idealize.ShloMosaic.TcCoe Idealize.SL.Sem

/-- The precondition says that no half-precision scale has exponent 31. -/
theorem finite_of_pre (m : (ℓ : Loc Cert.KernelIdeal.nD Cert.KernelIdeal.τ Cert.KernelIdeal.sig) → Buf (Elt Ideal) ℓ)
    (h : Pre_KernelIdeal_finite_d m) (c : Dev Cert.KernelIdeal.nD) :
    Cert.KernelIdeal.Proof.FiniteScales (Cert.KernelIdeal.Proof.argD m c) := by
  intro o b
  have e := congrFun (h c) (fun a => Fin.elim0 a)
  haveI : Subsingleton Cert.Pre_finite_d.S_.Idx := ⟨fun x y => funext fun a => Fin.elim0 a⟩
  have e' := Host.reduce_andi_all _ _ _ _ _ e (ValueIdx.ix2 o b)
  have e'' : IntOp.cmpi .ne (IntOp.andi ((Cert.KernelIdeal.Proof.argD m c (ValueIdx.ix2 o b) : BitVec 16).setWidth 32) 31744#32) 31744#32 = 1#1 := e'
  rw [WordCmp.cmpi_ne_eq] at e''
  intro hc
  rw [hc] at e''
  exact absurd e'' (by decide)

/-- From memories that agree on the arguments, the two programs end with the same three results. -/
theorem algebraic : algebraic_KernelIdeal_ReferenceIdeal_pre_finite_d := by
  intro m ρ m' ρ' hpre hargs
  have hd := finite_of_pre m hpre
  refine ⟨_, _, _, Cert.KernelIdeal.Proof.run m ρ hd, ?_⟩
  refine (θ_run Cert.ReferenceIdeal.defs _ _).mono (fun r h c => ?_) (Cert.ReferenceIdeal.Value.run m' ρ')
  obtain ⟨h0, h1, h2, h3, h4⟩ := hargs c
  obtain ⟨r0, r1, r2, k⟩ := h c
  rw [h0, h1, h2, h3, h4] at r0 r1 r2
  exact ⟨r0, r1, r2, k⟩

/-- Each rewrite of the packed words keeps what the kernel computes: a word of two bfloat16s is its two halves, in the
    scratch, at the packing and where a word is read as two rows. -/
theorem preserves : preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

theorem claim : Cert.Claim :=
  ⟨Cert.Kernel.Gen.facts, Cert.KernelIdeal.Gen.facts, Cert.ReferenceIdeal.Gen.facts, Cert.Pre_finite_d.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, preserves, algebraic⟩

end Cert.Proof
